-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_left_aligned [hPre_finite_left_aligned : Cert.Pre_finite_left_aligned.Facts] (m : (ℓ : Loc Cert.KernelIdeal.nD Cert.KernelIdeal.τ Cert.KernelIdeal.sig) → Buf (Elt Ideal) ℓ) : Prop :=
  ∀ c : Dev Cert.KernelIdeal.nD,
    (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.1 = (fun _ => 1#1)
    ∧ (Cert.Pre_finite_left_aligned.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_left_aligned [hPre_finite_left_aligned : Cert.Pre_finite_left_aligned.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.1 = (fun _ => 1#1)
    ∧ (Cert.Pre_finite_left_aligned.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_left_aligned [hKernelIdeal : Cert.KernelIdeal.Facts] [hPre_finite_left_aligned : Cert.Pre_finite_left_aligned.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_left_aligned m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_left_aligned [hReferenceIdeal : Cert.ReferenceIdeal.Facts] [hPre_finite_left_aligned : Cert.Pre_finite_left_aligned.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_left_aligned m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "neg" .f32 0xF149F2CA#32 ⊥

def algebraic_KernelIdeal_ReferenceIdeal_pre_finite_left_aligned [hKernelIdeal : Cert.KernelIdeal.Facts] [hReferenceIdeal : Cert.ReferenceIdeal.Facts] [hPre_finite_left_aligned : Cert.Pre_finite_left_aligned.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_left_aligned m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_left_aligned : Cert.Pre_finite_left_aligned.Facts),
    quiescent_Kernel (hKernel := hKernel)
    ∧ quiescent_KernelIdeal (hKernelIdeal := hKernelIdeal)
    ∧ quiescent_KernelIdeal_pre_finite_left_aligned (hKernelIdeal := hKernelIdeal) (hPre_finite_left_aligned := hPre_finite_left_aligned)
    ∧ quiescent_ReferenceIdeal (hReferenceIdeal := hReferenceIdeal)
    ∧ quiescent_ReferenceIdeal_pre_finite_left_aligned (hReferenceIdeal := hReferenceIdeal) (hPre_finite_left_aligned := hPre_finite_left_aligned)
    ∧ preserves_Kernel_KernelIdeal
    ∧ algebraic_KernelIdeal_ReferenceIdeal_pre_finite_left_aligned (hKernelIdeal := hKernelIdeal) (hReferenceIdeal := hReferenceIdeal) (hPre_finite_left_aligned := hPre_finite_left_aligned)
-- ==== Pre_finite_left_aligned.lean ====
abbrev S16x526336 : Shape := ⟨2, ![16, 526336]⟩
abbrev S256x256 : Shape := ⟨2, ![256, 256]⟩
abbrev S256 : Shape := ⟨1, ![256]⟩
abbrev S256x512 : Shape := ⟨2, ![256, 512]⟩
abbrev S512 : Shape := ⟨1, ![512]⟩
abbrev S16x2048 : Shape := ⟨2, ![16, 2048]⟩
abbrev S_ : Shape := ⟨0, ![]⟩
abbrev S16 : Shape := ⟨1, ![16]⟩
abbrev S2048 : Shape := ⟨1, ![2048]⟩
abbrev S1x2048 : Shape := ⟨2, ![1, 2048]⟩
abbrev S16x1 : Shape := ⟨2, ![16, 1]⟩

class Facts : Prop where
  slices_S16x526336_S16x2048_0_524288 : S16x526336.Slices ![0, 524288] S16x2048
  reducesTo_S16x2048_S16_d1 : S16x2048.ReducesTo [1] S16
  h_S_ : 0 < S_.numel
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S_S16x526336 : S_.BroadcastsInDim S16x526336 (![] : Fin 0 → Fin S16x526336.rank)
  bcast_S_S256x256 : S_.BroadcastsInDim S256x256 (![] : Fin 0 → Fin S256x256.rank)
  bcast_S_S256 : S_.BroadcastsInDim S256 (![] : Fin 0 → Fin S256.rank)
  bcast_S_S256x512 : S_.BroadcastsInDim S256x512 (![] : Fin 0 → Fin S256x512.rank)
  bcast_S_S512 : S_.BroadcastsInDim S512 (![] : Fin 0 → Fin S512.rank)

variable [Facts]

def fn_part1 {F : FTy → Type} [FloatOps F] (main_arg4 : FVec F S512 .f32) (main_arg5 : FVec F S256x512 .f32) (main_arg6 : FVec F S512 .f32) (main_arg7 : FVec F S256x512 .f32) (main_arg8 : FVec F S512 .f32) (main_v0 : FVec F S16x2048 .f32) (main_v9 : FVec F S16x2048 .f32) (main_v12 : IVec S16x526336 1) (main_v15 : IVec S256x256 1) (main_v18 : IVec S256 1) (main_v19 : FVec F S256x512 .f32) : IVec S16x526336 1 × IVec S256x256 1 × IVec S256 1 × IVec S256x512 1 × IVec S512 1 × IVec S256x512 1 × IVec S512 1 × IVec S256x512 1 × IVec S512 1 × IVec S16x2048 1 :=
  let main_cst_2 : FVec F S_ .f32 := constant S_ .f32 0x7F800000#32
  let main_v20 : FVec F S256x512 .f32 := broadcastInDim S256x512 ![] bcast_S_S256x512 main_cst_2
  let main_v21 : IVec S256x512 1 := cmpf .olt main_v19 main_v20
  let main_v22 : FVec F S512 .f32 := Host.absf main_arg4
  let main_cst_3 : FVec F S_ .f32 := constant S_ .f32 0x7F800000#32
  let main_v23 : FVec F S512 .f32 := broadcastInDim S512 ![] bcast_S_S512 main_cst_3
  let main_v24 : IVec S512 1 := cmpf .olt main_v22 main_v23
  let main_v25 : FVec F S256x512 .f32 := Host.absf main_arg5
  let main_cst_4 : FVec F S_ .f32 := constant S_ .f32 0x7F800000#32
  let main_v26 : FVec F S256x512 .f32 := broadcastInDim S256x512 ![] bcast_S_S256x512 main_cst_4
  let main_v27 : IVec S256x512 1 := cmpf .olt main_v25 main_v26
  let main_v28 : FVec F S512 .f32 := Host.absf main_arg6
  let main_cst_5 : FVec F S_ .f32 := constant S_ .f32 0x7F800000#32
  let main_v29 : FVec F S512 .f32 := broadcastInDim S512 ![] bcast_S_S512 main_cst_5
  let main_v30 : IVec S512 1 := cmpf .olt main_v28 main_v29
  let main_v31 : FVec F S256x512 .f32 := Host.absf main_arg7
  let main_cst_6 : FVec F S_ .f32 := constant S_ .f32 0x7F800000#32
  let main_v32 : FVec F S256x512 .f32 := broadcastInDim S256x512 ![] bcast_S_S256x512 main_cst_6
  let main_v33 : IVec S256x512 1 := cmpf .olt main_v31 main_v32
  let main_v34 : FVec F S512 .f32 := Host.absf main_arg8
  let main_cst_7 : FVec F S_ .f32 := constant S_ .f32 0x7F800000#32
  let main_v35 : FVec F S512 .f32 := broadcastInDim S512 ![] bcast_S_S512 main_cst_7
  let main_v36 : IVec S512 1 := cmpf .olt main_v34 main_v35
  let main_v37 : IVec S16x2048 1 := cmpf .oeq main_v0 main_v9
  (main_v12, main_v15, main_v18, main_v21, main_v24, main_v27, main_v30, main_v33, main_v36, main_v37)

def fn {F : FTy → Type} [FloatOps F] (main_arg0 : FVec F S16x526336 .f32) (main_arg1 : FVec F S256x256 .f32) (main_arg2 : FVec F S256 .f32) (main_arg3 : FVec F S256x512 .f32) (main_arg4 : FVec F S512 .f32) (main_arg5 : FVec F S256x512 .f32) (main_arg6 : FVec F S512 .f32) (main_arg7 : FVec F S256x512 .f32) (main_arg8 : FVec F S512 .f32) : IVec S16x526336 1 × IVec S256x256 1 × IVec S256 1 × IVec S256x512 1 × IVec S512 1 × IVec S256x512 1 × IVec S512 1 × IVec S256x512 1 × IVec S512 1 × IVec S16x2048 1 :=
  let main_v0 : FVec F S16x2048 .f32 := (extractStridedSlice S16x2048 ![0, 524288] · slices_S16x526336_S16x2048_0_524288) main_arg0
  let main_v1 : IVec S16x2048 32 := fptosi 32 main_v0
  let main_c : IVec S_ 32 := constantI S_ 32 0#32
  let main_v2 : IVec S16 32 := (fun x v => Host.reduce IntOp.addi x v reducesTo_S16x2048_S16_d1 h_S_) main_v1 main_c
  let main_v3 : IVec S2048 32 := iotaInDim S2048 32 0
  let main_v4 : IVec S1x2048 32 := broadcastInDim S1x2048 ![1] bcast_S2048_S1x2048_1 main_v3
  let main_v5 : IVec S16x1 32 := broadcastInDim S16x1 ![0] bcast_S16_S16x1_0 main_v2
  let main_v6 : IVec S16x2048 32 := broadcastInDim S16x2048 ![0, 1] bcast_S1x2048_S16x2048_0_1 main_v4
  let main_v7 : IVec S16x2048 32 := broadcastInDim S16x2048 ![0, 1] bcast_S16x1_S16x2048_0_1 main_v5
  let main_v8 : IVec S16x2048 1 := cmpi .slt main_v6 main_v7
  let main_v9 : FVec F S16x2048 .f32 := uitofp .f32 main_v8
  let main_v10 : FVec F S16x526336 .f32 := Host.absf main_arg0
  let main_cst : FVec F S_ .f32 := constant S_ .f32 0x7F800000#32
  let main_v11 : FVec F S16x526336 .f32 := broadcastInDim S16x526336 ![] bcast_S_S16x526336 main_cst
  let main_v12 : IVec S16x526336 1 := cmpf .olt main_v10 main_v11
  let main_v13 : FVec F S256x256 .f32 := Host.absf main_arg1
  let main_cst_0 : FVec F S_ .f32 := constant S_ .f32 0x7F800000#32
  let main_v14 : FVec F S256x256 .f32 := broadcastInDim S256x256 ![] bcast_S_S256x256 main_cst_0
  let main_v15 : IVec S256x256 1 := cmpf .olt main_v13 main_v14
  let main_v16 : FVec F S256 .f32 := Host.absf main_arg2
  let main_cst_1 : FVec F S_ .f32 := constant S_ .f32 0x7F800000#32
  let main_v17 : FVec F S256 .f32 := broadcastInDim S256 ![] bcast_S_S256 main_cst_1
  let main_v18 : IVec S256 1 := cmpf .olt main_v16 main_v17
  let main_v19 : FVec F S256x512 .f32 := Host.absf main_arg3
  fn_part1 (F := F) main_arg4 main_arg5 main_arg6 main_arg7 main_arg8 main_v0 main_v9 main_v12 main_v15 main_v18 main_v19
-- ==== Kernel.lean ====
abbrev S16x526336 : Shape := ⟨2, ![16, 526336]⟩
abbrev S256x256 : Shape := ⟨2, ![256, 256]⟩
abbrev S256 : Shape := ⟨1, ![256]⟩
abbrev S256x512 : Shape := ⟨2, ![256, 512]⟩
abbrev S512 : Shape := ⟨1, ![512]⟩
abbrev S16x524288 : Shape := ⟨2, ![16, 524288]⟩
abbrev S16x2048x256 : Shape := ⟨3, ![16, 2048, 256]⟩
abbrev S16x2048 : Shape := ⟨2, ![16, 2048]⟩
abbrev S16x2048x1 : Shape := ⟨3, ![16, 2048, 1]⟩
abbrev S1x256 : Shape := ⟨2, ![1, 256]⟩
abbrev S1x512 : Shape := ⟨2, ![1, 512]⟩
abbrev S16x1x512 : Shape := ⟨3, ![16, 1, 512]⟩
abbrev S16x1x1 : Shape := ⟨3, ![16, 1, 1]⟩
abbrev S16x512 : Shape := ⟨2, ![16, 512]⟩
abbrev S16x1 : Shape := ⟨2, ![16, 1]⟩
abbrev S16x513 : Shape := ⟨2, ![16, 513]⟩
abbrev S1x2048x256 : Shape := ⟨3, ![1, 2048, 256]⟩
abbrev S1x2048x1 : Shape := ⟨3, ![1, 2048, 1]⟩
abbrev S1x1x512 : Shape := ⟨3, ![1, 1, 512]⟩
abbrev S1x1x1 : Shape := ⟨3, ![1, 1, 1]⟩
abbrev S2048x256 : Shape := ⟨2, ![2048, 256]⟩
abbrev S2048x512 : Shape := ⟨2, ![2048, 512]⟩
abbrev S512x8 : Shape := ⟨2, ![512, 8]⟩
abbrev S2048x8 : Shape := ⟨2, ![2048, 8]⟩
abbrev S2048x1 : Shape := ⟨2, ![2048, 1]⟩
abbrev S8 : Shape := ⟨1, ![8]⟩
abbrev S1x8 : Shape := ⟨2, ![1, 8]⟩
abbrev S8x256 : Shape := ⟨2, ![8, 256]⟩
abbrev S8x512 : Shape := ⟨2, ![8, 512]⟩
abbrev S8x1 : Shape := ⟨2, ![8, 1]⟩
abbrev S1 : Shape := ⟨1, ![1]⟩
abbrev S1x1 : Shape := ⟨2, ![1, 1]⟩

abbrev nBuf : Space → Nat
  | .hbm => 27
  | .vmem => 16
  | .smem => 0
  | _ => 0

abbrev bufTy : (tb : Table) → Fin (tcTables nBuf tb) → BufTy
  | .hbm, ⟨0, _⟩ => ⟨S16x526336, .f32⟩
  | .hbm, ⟨1, _⟩ => ⟨S256x256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S256x512, .f32⟩
  | .hbm, ⟨6, _⟩ => ⟨S512, .f32⟩
  | .hbm, ⟨7, _⟩ => ⟨S256x512, .f32⟩
  | .hbm, ⟨8, _⟩ => ⟨S512, .f32⟩
  | .hbm, ⟨9, _⟩ => ⟨S16x524288, .f32⟩
  | .hbm, ⟨10, _⟩ => ⟨S16x2048x256, .f32⟩
  | .hbm, ⟨11, _⟩ => ⟨S16x2048x256, .bf16⟩
  | .hbm, ⟨12, _⟩ => ⟨S16x2048, .f32⟩
  | .hbm, ⟨13, _⟩ => ⟨S16x2048x1, .f32⟩
  | .hbm, ⟨14, _⟩ => ⟨S256x256, .bf16⟩
  | .hbm, ⟨15, _⟩ => ⟨S1x256, .f32⟩
  | .hbm, ⟨16, _⟩ => ⟨S256x512, .bf16⟩
  | .hbm, ⟨17, _⟩ => ⟨S1x512, .f32⟩
  | .hbm, ⟨18, _⟩ => ⟨S256x512, .bf16⟩
  | .hbm, ⟨19, _⟩ => ⟨S1x512, .f32⟩
  | .hbm, ⟨20, _⟩ => ⟨S256x512, .bf16⟩
  | .hbm, ⟨21, _⟩ => ⟨S1x512, .f32⟩
  | .hbm, ⟨22, _⟩ => ⟨S16x1x512, .f32⟩
  | .hbm, ⟨23, _⟩ => ⟨S16x1x1, .f32⟩
  | .hbm, ⟨24, _⟩ => ⟨S16x512, .f32⟩
  | .hbm, ⟨25, _⟩ => ⟨S16x1, .f32⟩
  | .hbm, ⟨26, _⟩ => ⟨S16x513, .f32⟩
  | .local _ .vmem, ⟨0, _⟩ => ⟨S1x2048x256, .bf16⟩
  | .local _ .vmem, ⟨1, _⟩ => ⟨S1x2048x256, .bf16⟩
  | .local _ .vmem, ⟨2, _⟩ => ⟨S1x2048x1, .f32⟩
  | .local _ .vmem, ⟨3, _⟩ => ⟨S1x2048x1, .f32⟩
  | .local _ .vmem, ⟨4, _⟩ => ⟨S256x256, .bf16⟩
  | .local _ .vmem, ⟨5, _⟩ => ⟨S1x256, .f32⟩
  | .local _ .vmem, ⟨6, _⟩ => ⟨S256x512, .bf16⟩
  | .local _ .vmem, ⟨7, _⟩ => ⟨S1x512, .f32⟩
  | .local _ .vmem, ⟨8, _⟩ => ⟨S256x512, .bf16⟩
  | .local _ .vmem, ⟨9, _⟩ => ⟨S1x512, .f32⟩
  | .local _ .vmem, ⟨10, _⟩ => ⟨S256x512, .bf16⟩
  | .local _ .vmem, ⟨11, _⟩ => ⟨S1x512, .f32⟩
  | .local _ .vmem, ⟨12, _⟩ => ⟨S1x1x512, .f32⟩
  | .local _ .vmem, ⟨13, _⟩ => ⟨S1x1x512, .f32⟩
  | .local _ .vmem, ⟨14, _⟩ => ⟨S1x1x1, .f32⟩
  | .local _ .vmem, ⟨15, _⟩ => ⟨S1x1x1, .f32⟩
  | _, _ => ⟨S16x526336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13_0 : Ref sig .tc := ⟨.hbm, 22, rfl⟩
abbrev main_call0_v13_1 : Ref sig .tc := ⟨.hbm, 23, rfl⟩
abbrev main_call0_v14 : Ref sig .tc := ⟨.hbm, 24, rfl⟩
abbrev main_call0_v15 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S16x526336 : Shape := ⟨2, ![16, 526336]⟩
abbrev S256x256 : Shape := ⟨2, ![256, 256]⟩
abbrev S256 : Shape := ⟨1, ![256]⟩
abbrev S256x512 : Shape := ⟨2, ![256, 512]⟩
abbrev S512 : Shape := ⟨1, ![512]⟩
abbrev S16x2048 : Shape := ⟨2, ![16, 2048]⟩
abbrev S_ : Shape := ⟨0, ![]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x524288 : Shape := ⟨2, ![16, 524288]⟩
abbrev S16x2048x256 : Shape := ⟨3, ![16, 2048, 256]⟩
abbrev S1x1x256 : Shape := ⟨3, ![1, 1, 256]⟩
abbrev S16x2048x512 : Shape := ⟨3, ![16, 2048, 512]⟩
abbrev S1x1x512 : Shape := ⟨3, ![1, 1, 512]⟩
abbrev S16x2048x8x64 : Shape := ⟨4, ![16, 2048, 8, 64]⟩
abbrev S16x2048x8 : Shape := ⟨3, ![16, 2048, 8]⟩
abbrev S16x2048x1 : Shape := ⟨3, ![16, 2048, 1]⟩
abbrev S16x8 : Shape := ⟨2, ![16, 8]⟩
abbrev S16x1x8 : Shape := ⟨3, ![16, 1, 8]⟩
abbrev S16x2048x1x1 : Shape := ⟨4, ![16, 2048, 1, 1]⟩
abbrev S16x2048x8x1 : Shape := ⟨4, ![16, 2048, 8, 1]⟩
abbrev S16x8x64 : Shape := ⟨3, ![16, 8, 64]⟩
abbrev S16x512 : Shape := ⟨2, ![16, 512]⟩
abbrev S16x513 : Shape := ⟨2, ![16, 513]⟩

abbrev nBuf : Space → Nat
  | .hbm => 87
  | .vmem => 0
  | .smem => 0
  | _ => 0

abbrev bufTy : (tb : Table) → Fin (tcTables nBuf tb) → BufTy
  | .hbm, ⟨0, _⟩ => ⟨S16x526336, .f32⟩
  | .hbm, ⟨1, _⟩ => ⟨S256x256, .f32⟩
  | .hbm, ⟨2, _⟩ => ⟨S256, .f32⟩
  | .hbm, ⟨3, _⟩ => ⟨S256x512, .f32⟩
  | .hbm, ⟨4, _⟩ => ⟨S512, .f32⟩
  | .hbm, ⟨5, _⟩ => ⟨S256x512, .f32⟩
  | .hbm, ⟨6, _⟩ => ⟨S512, .f32⟩
  | .hbm, ⟨7, _⟩ => ⟨S256x512, .f32⟩
  | .hbm, ⟨8, _⟩ => ⟨S512, .f32⟩
  | .hbm, ⟨9, _⟩ => ⟨S16x2048, .f32⟩
  | .hbm, ⟨10, _⟩ => ⟨S16x2048, .i32⟩
  | .hbm, ⟨11, _⟩ => ⟨S_, .i32⟩
  | .hbm, ⟨12, _⟩ => ⟨S16, .i32⟩
  | .hbm, ⟨13, _⟩ => ⟨S2048, .i32⟩
  | .hbm, ⟨14, _⟩ => ⟨S1x2048, .i32⟩
  | .hbm, ⟨15, _⟩ => ⟨S16x1, .i32⟩
  | .hbm, ⟨16, _⟩ => ⟨S16x2048, .i32⟩
  | .hbm, ⟨17, _⟩ => ⟨S16x2048, .i32⟩
  | .hbm, ⟨18, _⟩ => ⟨S16x2048, .i1⟩
  | .hbm, ⟨19, _⟩ => ⟨S16x2048, .f32⟩
  | .hbm, ⟨20, _⟩ => ⟨S16x524288, .f32⟩
  | .hbm, ⟨21, _⟩ => ⟨S16x2048x256, .f32⟩
  | .hbm, ⟨22, _⟩ => ⟨S16x2048x256, .f32⟩
  | .hbm, ⟨23, _⟩ => ⟨S1x1x256, .f32⟩
  | .hbm, ⟨24, _⟩ => ⟨S16x2048x256, .f32⟩
  | .hbm, ⟨25, _⟩ => ⟨S16x2048x256, .f32⟩
  | .hbm, ⟨26, _⟩ => ⟨S16x2048x512, .f32⟩
  | .hbm, ⟨27, _⟩ => ⟨S1x1x512, .f32⟩
  | .hbm, ⟨28, _⟩ => ⟨S16x2048x512, .f32⟩
  | .hbm, ⟨29, _⟩ => ⟨S16x2048x512, .f32⟩
  | .hbm, ⟨30, _⟩ => ⟨S16x2048x8x64, .f32⟩
  | .hbm, ⟨31, _⟩ => ⟨S16x2048x512, .f32⟩
  | .hbm, ⟨32, _⟩ => ⟨S1x1x512, .f32⟩
  | .hbm, ⟨33, _⟩ => ⟨S16x2048x512, .f32⟩
  | .hbm, ⟨34, _⟩ => ⟨S16x2048x512, .f32⟩
  | .hbm, ⟨35, _⟩ => ⟨S16x2048x8x64, .f32⟩
  | .hbm, ⟨36, _⟩ => ⟨S16x2048x512, .f32⟩
  | .hbm, ⟨37, _⟩ => ⟨S1x1x512, .f32⟩
  | .hbm, ⟨38, _⟩ => ⟨S16x2048x512, .f32⟩
  | .hbm, ⟨39, _⟩ => ⟨S16x2048x512, .f32⟩
  | .hbm, ⟨40, _⟩ => ⟨S16x2048x8x64, .f32⟩
  | .hbm, ⟨41, _⟩ => ⟨S16x2048x8x64, .f32⟩
  | .hbm, ⟨42, _⟩ => ⟨S_, .f32⟩
  | .hbm, ⟨43, _⟩ => ⟨S16x2048x8, .f32⟩
  | .hbm, ⟨44, _⟩ => ⟨S_, .f32⟩
  | .hbm, ⟨45, _⟩ => ⟨S16x2048x8, .f32⟩
  | .hbm, ⟨46, _⟩ => ⟨S16x2048x8, .f32⟩
  | .hbm, ⟨47, _⟩ => ⟨S16x2048x1, .f32⟩
  | .hbm, ⟨48, _⟩ => ⟨S16x2048x8, .f32⟩
  | .hbm, ⟨49, _⟩ => ⟨S16x2048x8, .f32⟩
  | .hbm, ⟨50, _⟩ => ⟨S16x2048x1, .f32⟩
  | .hbm, ⟨51, _⟩ => ⟨S16x2048x8, .f32⟩
  | .hbm, ⟨52, _⟩ => ⟨S16x2048x8, .f32⟩
  | .hbm, ⟨53, _⟩ => ⟨S_, .f32⟩
  | .hbm, ⟨54, _⟩ => ⟨S16x2048x8, .f32⟩
  | .hbm, ⟨55, _⟩ => ⟨S16x2048x8, .f32⟩
  | .hbm, ⟨56, _⟩ => ⟨S_, .f32⟩
  | .hbm, ⟨57, _⟩ => ⟨S16x8, .f32⟩
  | .hbm, ⟨58, _⟩ => ⟨S16x1x8, .f32⟩
  | .hbm, ⟨59, _⟩ => ⟨S16x2048x8, .f32⟩
  | .hbm, ⟨60, _⟩ => ⟨S16x2048x8, .f32⟩
  | .hbm, ⟨61, _⟩ => ⟨S16x2048x8, .f32⟩
  | .hbm, ⟨62, _⟩ => ⟨S16x2048x8, .f32⟩
  | .hbm, ⟨63, _⟩ => ⟨S_, .f32⟩
  | .hbm, ⟨64, _⟩ => ⟨S16x8, .f32⟩
  | .hbm, ⟨65, _⟩ => ⟨S16x1x8, .f32⟩
  | .hbm, ⟨66, _⟩ => ⟨S_, .f32⟩
  | .hbm, ⟨67, _⟩ => ⟨S16x1x8, .f32⟩
  | .hbm, ⟨68, _⟩ => ⟨S16x1x8, .f32⟩
  | .hbm, ⟨69, _⟩ => ⟨S16x2048x8, .f32⟩
  | .hbm, ⟨70, _⟩ => ⟨S16x2048x8, .f32⟩
  | .hbm, ⟨71, _⟩ => ⟨S16x2048x8, .f32⟩
  | .hbm, ⟨72, _⟩ => ⟨S16x2048x1x1, .f32⟩
  | .hbm, ⟨73, _⟩ => ⟨S16x2048x8x64, .f32⟩
  | .hbm, ⟨74, _⟩ => ⟨S16x2048x8x64, .f32⟩
  | .hbm, ⟨75, _⟩ => ⟨S16x2048x8x1, .f32⟩
  | .hbm, ⟨76, _⟩ => ⟨S16x2048x8x64, .f32⟩
  | .hbm, ⟨77, _⟩ => ⟨S16x2048x8x64, .f32⟩
  | .hbm, ⟨78, _⟩ => ⟨S_, .f32⟩
  | .hbm, ⟨79, _⟩ => ⟨S16x8x64, .f32⟩
  | .hbm, ⟨80, _⟩ => ⟨S16x512, .f32⟩
  | .hbm, ⟨81, _⟩ => ⟨S16, .f32⟩
  | .hbm, ⟨82, _⟩ => ⟨S_, .f32⟩
  | .hbm, ⟨83, _⟩ => ⟨S16, .f32⟩
  | .hbm, ⟨84, _⟩ => ⟨S16, .f32⟩
  | .hbm, ⟨85, _⟩ => ⟨S16x1, .f32⟩
  | .hbm, ⟨86, _⟩ => ⟨S16x513, .f32⟩
  | _, _ => ⟨S16x526336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst : Ref sig .tc := ⟨.hbm, 42, rfl⟩
abbrev main_v32 : Ref sig .tc := ⟨.hbm, 43, rfl⟩
abbrev main_cst_0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_1 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_3 : Ref sig .tc := ⟨.hbm, 63, rfl⟩
abbrev main_v49 : Ref sig .tc := ⟨.hbm, 64, rfl⟩
abbrev main_v50 : Ref sig .tc := ⟨.hbm, 65, rfl⟩
abbrev main_cst_4 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_6 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Pool.lean ====
/- The mathematics of one batch row, over the real numbers, with no program in sight: a shared layer, three projections
   split into 8 heads of 64 lanes, scores, a softmax with one extra unit in its denominator over the kept positions, and
   the pooled values. The kernel and the reference are each read as the functions defined here. -/
module

public import Idealize.ShloMosaic.PureOps.Ideal
public import Idealize.ShloMosaic.PureOps.Ideal.Laws
public import Idealize.ShloMosaic.Lib.Pointwise

@[expose] public section

noncomputable section

namespace Cert.Pool

open Idealize.ShloMosaic

/-! ## Extended reals that are real -/

/-- A finite sum of reals, summed as extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals by a nonzero denominator is the real quotient. -/
theorem div_real (a : ℝ) {b : ℝ} (hb : b ≠ 0) : Ideal.div (a : EReal) (b : EReal) = ((a / b : ℝ) : EReal) := by
  rw [Ideal.div_coe hb, ← EReal.coe_mul, mul_one_div]

/-- The maximum of two reals, as extended reals. -/
theorem coe_max (a b : ℝ) : max (a : EReal) (b : EReal) = ((max a b : ℝ) : EReal) :=
  (EReal.coe_strictMono.monotone.map_max).symm

/-! ## The greatest of a row's scores and zero -/

/-- The greatest value of `f`, or zero when every value is negative. -/
def peak (f : Fin 2048 → EReal) : EReal := max ((Finset.univ : Finset (Fin 2048)).fold max ⊥ f) 0

/-- If every value is real or `-∞`, the peak is a real number. -/
theorem peak_real (f : Fin 2048 → EReal) (hf : ∀ t, f t < ⊤) : ((peak f).toReal : EReal) = peak f := by
  refine EReal.coe_toReal (ne_of_lt ?_) (ne_of_gt ?_)
  · exact max_lt ((Finset.fold_max_lt _).2 ⟨bot_lt_top, fun t _ => hf t⟩) EReal.zero_lt_top
  · exact lt_of_lt_of_le EReal.bot_lt_zero (le_max_right _ _)

/-- Clipping every value below at zero before taking the maximum gives the same peak. -/
theorem fold_clip (f g : Fin 2048 → EReal) (h : ∀ t, g t = max (f t) 0) :
    (Finset.univ : Finset (Fin 2048)).fold max ⊥ g = peak f := by
  refine le_antisymm ((Finset.fold_max_le _).2 ⟨bot_le, fun t _ => ?_⟩) (max_le ((Finset.fold_max_le _).2 ⟨bot_le, fun t ht => ?_⟩) ?_)
  · rw [h]
    exact max_le_max ((Finset.le_fold_max _).2 (Or.inr ⟨t, Finset.mem_univ _, le_rfl⟩)) le_rfl
  · exact (Finset.le_fold_max _).2 (Or.inr ⟨t, ht, by rw [h]; exact le_max_left _ _⟩)
  · exact (Finset.le_fold_max _).2 (Or.inr ⟨0, Finset.mem_univ _, by rw [h]; exact le_max_right _ _⟩)

/-! ## The layers -/

/-- The weights of the layer, as reals. -/
structure Params where
  Ws : Fin 256 → Fin 256 → ℝ
  bs : Fin 256 → ℝ
  Wq : Fin 256 → Fin 512 → ℝ
  bq : Fin 512 → ℝ
  Wk : Fin 256 → Fin 512 → ℝ
  bk : Fin 512 → ℝ
  Wv : Fin 256 → Fin 512 → ℝ
  bv : Fin 512 → ℝ

/-- Lane `a` of head `h` among the 512 lanes. -/
def lane (h : Fin 8) (a : Fin 64) : Fin 512 := ⟨64 * h.val + a.val, by omega⟩

/-- The head of a lane. -/
def head (l : Fin 512) : Fin 8 := ⟨l.val / 64, by omega⟩

@[simp] theorem head_lane (h : Fin 8) (a : Fin 64) : head (lane h a) = h := by
  apply Fin.ext; simp only [head, lane]; omega

/-- The shared layer's output at position `t`. -/
def act (P : Params) (X : Fin 2048 → Fin 256 → ℝ) (t : Fin 2048) (d : Fin 256) : ℝ := ∑ e, X t e * P.Ws e d + P.bs d

/-- A projection of the shared layer's output. -/
def proj (A : Fin 2048 → Fin 256 → ℝ) (W : Fin 256 → Fin 512 → ℝ) (b : Fin 512 → ℝ) (t : Fin 2048) (l : Fin 512) : ℝ :=
  ∑ d, A t d * W d l + b l

/-- The product of the query's and the key's lane. -/
def prodQK (P : Params) (X : Fin 2048 → Fin 256 → ℝ) (t : Fin 2048) (l : Fin 512) : ℝ :=
  proj (act P X) P.Wq P.bq t l * proj (act P X) P.Wk P.bk t l

/-- The score of position `t` for head `h`. -/
def score (P : Params) (X : Fin 2048 → Fin 256 → ℝ) (t : Fin 2048) (h : Fin 8) : ℝ :=
  (∑ a : Fin 64, prodQK P X t (lane h a)) * (1 / 8)

/-- The score of a kept position, `-∞` at a dropped one. -/
def kept (P : Params) (X : Fin 2048 → Fin 256 → ℝ) (m : Fin 2048 → ℝ) (h : Fin 8) (t : Fin 2048) : EReal :=
  if m t = 1 then ((score P X t h : ℝ) : EReal) else ⊥

/-- The peak of head `h`, as a real. -/
def top (P : Params) (X : Fin 2048 → Fin 256 → ℝ) (m : Fin 2048 → ℝ) (h : Fin 8) : ℝ := (peak (kept P X m h)).toReal

/-- The unnormalised weight of position `t` for head `h`. -/
def weight (P : Params) (X : Fin 2048 → Fin 256 → ℝ) (m : Fin 2048 → ℝ) (t : Fin 2048) (h : Fin 8) : ℝ :=
  m t * Real.exp (score P X t h - top P X m h)

/-- The softmax's denominator: the weights' sum and one. -/
def total (P : Params) (X : Fin 2048 → Fin 256 → ℝ) (m : Fin 2048 → ℝ) (h : Fin 8) : ℝ := ∑ t, weight P X m t h + 1

/-- The pooled value at lane `l`. -/
def pooled (P : Params) (X : Fin 2048 → Fin 256 → ℝ) (m : Fin 2048 → ℝ) (l : Fin 512) : ℝ :=
  ∑ t, weight P X m t (head l) / total P X m (head l) * proj (act P X) P.Wv P.bv t l

section Facts

variable (P : Params) (X : Fin 2048 → Fin 256 → ℝ) (m : Fin 2048 → ℝ)

theorem kept_lt_top (h : Fin 8) (t : Fin 2048) : kept P X m h t < ⊤ := by
  unfold kept; split
  · exact EReal.coe_lt_top _
  · exact bot_lt_top

theorem peak_kept (h : Fin 8) : peak (kept P X m h) = ((top P X m h : ℝ) : EReal) :=
  (peak_real _ (kept_lt_top P X m h)).symm

variable (hm : ∀ t, m t = 0 ∨ m t = 1)
include hm

theorem weight_nonneg (t : Fin 2048) (h : Fin 8) : 0 ≤ weight P X m t h := by
  refine mul_nonneg ?_ (Real.exp_pos _).le
  rcases hm t with e | e <;> rw [e] <;> norm_num

theorem total_ne_zero (h : Fin 8) : total P X m h ≠ 0 :=
  ne_of_gt (add_pos_of_nonneg_of_pos (Finset.sum_nonneg fun t _ => weight_nonneg P X m hm t h) one_pos)

/-- Shifting a kept score by the peak and exponentiating gives the weight, and zero at a dropped position. -/
theorem exp_kept (t : Fin 2048) (h : Fin 8) :
    Ideal.exp (kept P X m h t - ((top P X m h : ℝ) : EReal)) = ((weight P X m t h : ℝ) : EReal) := by
  unfold kept weight
  rcases hm t with e | e
  · rw [e, if_neg (by norm_num), zero_mul, EReal.bot_sub, Ideal.exp_bot, EReal.coe_zero]
  · rw [e, if_pos rfl, one_mul, ← EReal.coe_sub]; rfl

end Facts

/-- A sum over the 512 lanes that keeps only the lanes of head `h` is the sum over that head's 64 lanes. -/
theorem sum_lanes (f : Fin 512 → ℝ) (h : Fin 8) :
    ∑ l, f l * (if head l = h then 1 else 0) = ∑ a : Fin 64, f (lane h a) := by
  have e : ∀ l, f l * (if head l = h then (1 : ℝ) else 0) = if head l = h then f l else 0 := fun l => by split <;> simp
  rw [Finset.sum_congr rfl fun l _ => e l, ← Finset.sum_filter]
  refine Finset.sum_bij' (fun l _ => (⟨l.val % 64, by omega⟩ : Fin 64)) (fun a _ => lane h a) ?_ ?_ ?_ ?_ ?_
  · intro l _; exact Finset.mem_univ _
  · intro a _; simp
  · intro l hl
    have := congrArg Fin.val (Finset.mem_filter.1 hl).2
    apply Fin.ext; simp only [head, lane] at this ⊢; omega
  · intro a _; apply Fin.ext; simp only [lane]; omega
  · intro l hl
    have := congrArg Fin.val (Finset.mem_filter.1 hl).2
    congr 1; apply Fin.ext; simp only [head, lane] at this ⊢; omega

/-- The weights' sum over the denominator is the denominator less one over itself, so pooling the shared layer first and
    projecting afterwards gives the pooled value. -/
theorem pooled_first (P : Params) (X : Fin 2048 → Fin 256 → ℝ) (m : Fin 2048 → ℝ) (l : Fin 512) :
    ∑ h : Fin 8, ((∑ d, (∑ t, weight P X m t h / total P X m h * act P X t d) * P.Wv d l)
        + (total P X m h - 1) / total P X m h * P.bv l) * (if head l = h then 1 else 0) = pooled P X m l := by
  rw [Finset.sum_eq_single (head l) (fun h _ hne => by rw [if_neg (Ne.symm hne), mul_zero])
    (fun hn => absurd (Finset.mem_univ _) hn), if_pos rfl, mul_one]
  unfold pooled proj
  have hs : total P X m (head l) - 1 = ∑ t, weight P X m t (head l) := by unfold total; ring
  rw [hs, Finset.sum_div, Finset.sum_mul, Finset.sum_congr rfl fun d _ => Finset.sum_mul _ _ _, Finset.sum_comm, ← Finset.sum_add_distrib]
  refine Finset.sum_congr rfl fun t _ => ?_
  rw [mul_add, Finset.mul_sum]
  congr 1
  exact Finset.sum_congr rfl fun d _ => by ring

end Cert.Pool

end
-- ==== Proof.KernelBlock.lean ====
/- What the kernel's body leaves in its two output blocks, from one batch row's input blocks. Each value the body
   computes is read at an index and, the inputs being real, found to be the real number `Pool` names. -/
module

public import proofs.«01_k».proof.Proof.Gen.KernelIdeal.Frame
public import proofs.«01_k».proof.Proof.Pool
public import Idealize.ShloMosaic.Lib.Pointwise

@[expose] public section

noncomputable section

namespace Cert.KernelIdeal.Block

open Idealize.ShloMosaic Cert.KernelIdeal Cert.KernelIdeal.Gen Cert.Pool

/-! ## The literals -/

/-- The literal the mask is compared with is one half. -/
theorem lit_half : Ideal.ofBits FTy.f32 1056964608#32 = (((1 / 2 : ℝ)) : EReal) := by
  simp [Ideal.ofBits, Ideal.ieee, -EReal.coe_mul]; norm_num

/-- The scores' scale is one eighth. -/
theorem lit_eighth : Ideal.ofBits FTy.f32 1040187392#32 = (((1 / 8 : ℝ)) : EReal) := by
  simp [Ideal.ofBits, Ideal.ieee, -EReal.coe_mul]; norm_num

/-- The mask fraction's scale is one over 2048. -/
theorem lit_frac : Ideal.ofBits FTy.f32 973078528#32 = (((1 / 2048 : ℝ)) : EReal) := by
  simp [Ideal.ofBits, Ideal.ieee, -EReal.coe_mul]; norm_num

/-- The maximum's start is `-∞`. -/
theorem lit_bot : Ideal.ofBits FTy.f32 4286578688#32 = ⊥ := by
  simp [Ideal.ofBits, Ideal.ieee]

/-- The named constant is `-∞`. -/
theorem named_neg : Named.named (F := Ideal) (φ := .f32) κ "neg" 4048155338#32 = (⊥ : EReal) :=
  IdealRules.named_const.ideal_named_scalar _ _ _ _ rfl

/-! ## The head selector -/

/-- The floor of lane `l` over 64, in the body's words. -/
def floorWord (l : BitVec 32) : BitVec 32 :=
  Scalar.select
    (IntOp.andi
      (IntOp.cmpi CmpIPredicate.ne
        (IntOp.subi (BitVec.setWidth 32 (IntOp.cmpi CmpIPredicate.sgt l 0#32))
          (BitVec.setWidth 32 (IntOp.cmpi CmpIPredicate.slt l 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector l 64#32) 0#32))
    (IntOp.subi (IntOp.divsi ArithUnit.vector l 64#32) 1#32)
    (IntOp.divsi ArithUnit.vector l 64#32)

/-- It is the lane's head. -/
theorem floorWord_lane : ∀ l : Fin 512, floorWord (BitVec.ofNat 32 l.val) = BitVec.ofNat 32 (head l).val := by
  decide +kernel

/-- The selector's entry: one where the lane's head is `h`, zero elsewhere. -/
theorem selector (l : Fin 512) (h : Fin 8) :
    (FloatOps.sitofp (F := Ideal) FTy.f32
      (BitVec.setWidth 32 (IntOp.cmpi CmpIPredicate.eq (floorWord (BitVec.ofNat 32 l.val)) (BitVec.ofNat 32 h.val))) : EReal)
      = (((if head l = h then 1 else 0 : ℝ)) : EReal) := by
  rw [floorWord_lane]
  have key : ∀ a b : Fin 8, (BitVec.setWidth 32 (IntOp.cmpi CmpIPredicate.eq (BitVec.ofNat 32 a.val) (BitVec.ofNat 32 b.val))).toInt
      = if a = b then 1 else 0 := by decide +kernel
  show ((((BitVec.setWidth 32 (IntOp.cmpi CmpIPredicate.eq (BitVec.ofNat 32 (head l).val) (BitVec.ofNat 32 h.val))).toInt : ℤ) : ℝ) : EReal) = _
  rw [key]
  split <;> simp

/-! ## The body's values -/

/-- A rectangle at the origin of a rank-2 block has offset zero on both axes. -/
theorem zero2 : (![0, 0] : Fin 2 → Nat) = fun _ => 0 := by decide

/-- A rectangle at the origin of a rank-3 block has offset zero on all axes. -/
theorem zero3 : (![0, 0, 0] : Fin 3 → Nat) = fun _ => 0 := by decide

section Real

variable (P : Params) (X : Fin 2048 → Fin 256 → ℝ) (m : Fin 2048 → ℝ)
variable (x0 : Vec Ideal S1x2048x256 .bf16) (x1 : Vec Ideal S1x2048x1 .f32) (x2 : Vec Ideal S256x256 .bf16)
  (x3 : Vec Ideal S1x256 .f32) (x4 : Vec Ideal S256x512 .bf16) (x5 : Vec Ideal S1x512 .f32) (x6 : Vec Ideal S256x512 .bf16)
  (x7 : Vec Ideal S1x512 .f32) (x8 : Vec Ideal S256x512 .bf16) (x9 : Vec Ideal S1x512 .f32)

/-- The ten input blocks hold the row's activations, its mask and the weights, all real, the mask zero or one. -/
structure Holds : Prop where
  h0 : ∀ t d, x0 (ix3 0 t d) = ((X t d : ℝ) : EReal)
  h1 : ∀ t, x1 (ix3 0 t 0) = ((m t : ℝ) : EReal)
  h2 : ∀ e d, x2 (ix2 e d) = ((P.Ws e d : ℝ) : EReal)
  h3 : ∀ d, x3 (ix2 0 d) = ((P.bs d : ℝ) : EReal)
  h4 : ∀ d l, x4 (ix2 d l) = ((P.Wq d l : ℝ) : EReal)
  h5 : ∀ l, x5 (ix2 0 l) = ((P.bq l : ℝ) : EReal)
  h6 : ∀ d l, x6 (ix2 d l) = ((P.Wk d l : ℝ) : EReal)
  h7 : ∀ l, x7 (ix2 0 l) = ((P.bk l : ℝ) : EReal)
  h8 : ∀ d l, x8 (ix2 d l) = ((P.Wv d l : ℝ) : EReal)
  h9 : ∀ l, x9 (ix2 0 l) = ((P.bv l : ℝ) : EReal)
  hm : ∀ t, m t = 0 ∨ m t = 1

variable {P X m x0 x1 x2 x3 x4 x5 x6 x7 x8 x9}
variable (H : Holds P X m x0 x1 x2 x3 x4 x5 x6 x7 x8 x9)
include H

/-- The shared layer. -/
theorem act_apply (t : Fin 2048) (d : Fin 256) : k0_pay3 (F := Ideal) x0 x2 x3 (ix2 t d) = ((act P X t d : ℝ) : EReal) := by
  pointwise [k0_pay3]
  simp only [H.h0, H.h2, H.h3, ← EReal.coe_mul, coe_sum, ← EReal.coe_add]
  rfl

/-- The product of the query and the key projections. -/
theorem prod_apply (t : Fin 2048) (l : Fin 512) :
    k0_pay4 (F := Ideal) x0 x2 x3 x4 x5 x6 x7 (ix2 t l) = ((prodQK P X t l : ℝ) : EReal) := by
  pointwise [k0_pay4]
  simp only [act_apply H, H.h4, H.h5, H.h6, H.h7, ← EReal.coe_mul, coe_sum, ← EReal.coe_add]
  rfl

/-- The mask's test selects the score or `-∞`. -/
theorem kept_apply (t : Fin 2048) (h : Fin 8) :
    (if Ideal.ofBits FTy.f32 1056964608#32 < x1 (ix3 0 t 0) then
        (∑ l : Fin 512, k0_pay4 (F := Ideal) x0 x2 x3 x4 x5 x6 x7 (ix2 t l) *
          (FloatOps.sitofp (F := Ideal) FTy.f32 (BitVec.setWidth 32
            (IntOp.cmpi CmpIPredicate.eq (floorWord (BitVec.ofNat 32 l.val)) (BitVec.ofNat 32 h.val))) : EReal)) *
          Ideal.ofBits FTy.f32 1040187392#32
      else Named.named (F := Ideal) (φ := .f32) κ "neg" 4048155338#32) = kept P X m h t := by
  simp only [selector, prod_apply H, H.h1, lit_half, lit_eighth, named_neg, ← EReal.coe_mul, coe_sum, sum_lanes]
  unfold kept
  rcases H.hm t with e | e
  · rw [e, if_neg (by rw [EReal.coe_lt_coe_iff]; norm_num : ¬ (((1 / 2 : ℝ) : EReal) < ((0 : ℝ) : EReal))), if_neg (by norm_num)]
  · rw [e, if_pos (by rw [EReal.coe_lt_coe_iff]; norm_num : ((1 / 2 : ℝ) : EReal) < ((1 : ℝ) : EReal)), if_pos rfl]; rfl

/-- The exponentials are the weights. -/
theorem weight_apply (t : Fin 2048) (h : Fin 8) :
    k0_pay8 (F := Ideal) (k0_pay4 (F := Ideal) x0 x2 x3 x4 x5 x6 x7) (iota .tc S512x8 32 [0] iota_S512x8_d0_w32)
      (iota .tc S512x8 32 [1] iota_S512x8_d1_w32) 64#32 k0_pay5 k0_pay6 0#32 x1 (ix2 t h) = ((weight P X m t h : ℝ) : EReal) := by
  pointwise [k0_pay8, k0_pay5, k0_pay6, k0_pay7]
  have e := fun t => kept_apply H t h
  simp only [floorWord] at e
  simp only [e, lit_bot]
  rw [← exp_kept P X m H.hm t h, ← peak_kept]
  rfl

/-- The denominator. -/
theorem total_apply (h : Fin 8) :
    k0_pay9 (F := Ideal) (k0_pay4 (F := Ideal) x0 x2 x3 x4 x5 x6 x7) (iota .tc S512x8 32 [0] iota_S512x8_d0_w32)
      (iota .tc S512x8 32 [1] iota_S512x8_d1_w32) 64#32 k0_pay5 k0_pay6 0#32 x1 (ix2 0 h) = ((total P X m h : ℝ) : EReal) := by
  pointwise [k0_pay9]
  simp only [weight_apply H, coe_sum, ← EReal.coe_one, ← EReal.coe_add]
  rfl

/-- The shared layer pooled by the normalised weights. -/
theorem pooledAct_apply (h : Fin 8) (d : Fin 256) :
    k0_pay10 (F := Ideal) (k0_pay3 (F := Ideal) x0 x2 x3) (k0_pay4 (F := Ideal) x0 x2 x3 x4 x5 x6 x7) (iota .tc S512x8 32 [0] iota_S512x8_d0_w32)
      (iota .tc S512x8 32 [1] iota_S512x8_d1_w32) 64#32 k0_pay5 k0_pay6 0#32 x1 (ix2 h d)
      = ((∑ t, weight P X m t h / total P X m h * act P X t d : ℝ) : EReal) := by
  pointwise [k0_pay10]
  simp only [weight_apply H, total_apply H, act_apply H, div_real _ (total_ne_zero P X m H.hm h), ← EReal.coe_mul, coe_sum]

/-- The first output block: the pooled values. -/
theorem out10_apply (l : Fin 512) :
    out0_10 (F := Ideal) x0 x1 x2 x3 x4 x5 x6 x7 x8 x9 (ix3 0 0 l) = ((pooled P X m l : ℝ) : EReal) := by
  unfold_out out0_10
  rw [View.canon_unit_zero zero3]
  simp only [View.ld_unit_zero (S := S1x2048x256) zero3, View.ld_unit_zero (S := S1x2048x1) zero3,
    View.ld_unit_zero (S := S256x256) zero2, View.ld_unit_zero (S := S1x256) zero2, View.ld_unit_zero (S := S256x512) zero2,
    View.ld_unit_zero (S := S1x512) zero2]
  pointwise [k0_pay1, k0_pay11]
  have e := fun h => selector l h
  simp only [floorWord] at e
  rw [← pooled_first P X m l, ← coe_sum]
  refine Finset.sum_congr rfl fun h _ => ?_
  have e1 : ((total P X m h : ℝ) : EReal) - 1 = ((total P X m h - 1 : ℝ) : EReal) := by
    rw [EReal.coe_sub, EReal.coe_one]
  simp only [e, pooledAct_apply H, total_apply H, e1, H.h8, H.h9, div_real _ (total_ne_zero P X m H.hm h), ← EReal.coe_mul, coe_sum,
    ← EReal.coe_add]

/-- The second output block: the fraction of kept positions. -/
theorem out11_apply :
    out0_11 (F := Ideal) x0 x1 x2 x3 x4 x5 x6 x7 x8 x9 (ix3 0 0 0) = (((∑ t, m t) * (1 / 2048) : ℝ) : EReal) := by
  unfold_out out0_11
  rw [View.canon_unit_zero zero3, View.ld_unit_zero (S := S1x2048x1) zero3]
  pointwise [k0_pay2, k0_pay7]
  simp only [H.h1, lit_frac, coe_sum, ← EReal.coe_mul]

end Real

end Cert.KernelIdeal.Block

end
-- ==== Proof.Args.lean ====
/- What the arguments hold when the precondition is true: every entry a real number, the last 2048 columns of the first
   argument a mask of zeros and ones. -/
module

public import proofs.«01_k».proof.Proof.Pool

@[expose] public section

noncomputable section

namespace Cert.Pool

open Idealize.ShloMosaic

/-- The column of the first argument that holds activation `d` of position `t`. -/
def xCol (t : Fin 2048) (d : Fin 256) : Fin 526336 := ⟨t.val * 256 + d.val, by omega⟩

/-- The column of the first argument that holds the mask of position `t`. -/
def mCol (t : Fin 2048) : Fin 526336 := ⟨524288 + t.val, by omega⟩

/-- The nine arguments hold sixteen rows' activations and masks and the layer's weights, all real, each mask entry zero
    or one. -/
structure ArgsHold (P : Params) (X : Fin 16 → Fin 2048 → Fin 256 → ℝ) (m : Fin 16 → Fin 2048 → ℝ)
    (a0 : (⟨2, ![16, 526336]⟩ : Shape).Idx → EReal) (a1 : (⟨2, ![256, 256]⟩ : Shape).Idx → EReal)
    (a2 : (⟨1, ![256]⟩ : Shape).Idx → EReal) (a3 : (⟨2, ![256, 512]⟩ : Shape).Idx → EReal)
    (a4 : (⟨1, ![512]⟩ : Shape).Idx → EReal) (a5 : (⟨2, ![256, 512]⟩ : Shape).Idx → EReal)
    (a6 : (⟨1, ![512]⟩ : Shape).Idx → EReal) (a7 : (⟨2, ![256, 512]⟩ : Shape).Idx → EReal)
    (a8 : (⟨1, ![512]⟩ : Shape).Idx → EReal) : Prop where
  hX : ∀ b t d, a0 (ix2 b (xCol t d)) = ((X b t d : ℝ) : EReal)
  hM : ∀ b t, a0 (ix2 b (mCol t)) = ((m b t : ℝ) : EReal)
  h1 : ∀ e d, a1 (ix2 e d) = ((P.Ws e d : ℝ) : EReal)
  h2 : ∀ d, a2 (ix1 d) = ((P.bs d : ℝ) : EReal)
  h3 : ∀ d l, a3 (ix2 d l) = ((P.Wq d l : ℝ) : EReal)
  h4 : ∀ l, a4 (ix1 l) = ((P.bq l : ℝ) : EReal)
  h5 : ∀ d l, a5 (ix2 d l) = ((P.Wk d l : ℝ) : EReal)
  h6 : ∀ l, a6 (ix1 l) = ((P.bk l : ℝ) : EReal)
  h7 : ∀ d l, a7 (ix2 d l) = ((P.Wv d l : ℝ) : EReal)
  h8 : ∀ l, a8 (ix1 l) = ((P.bv l : ℝ) : EReal)
  hm : ∀ b t, m b t = 0 ∨ m b t = 1

/-! ## The mask's count -/

/-- A word sum of at most 2048 words, each zero or one, does not overflow: it is the sum of the numbers. -/
theorem fold_words (f : Fin 2048 → BitVec 32) (n : Fin 2048 → ℕ) (hn : ∀ t, n t ≤ 1) (hf : ∀ t, (f t).toNat = n t) :
    ((Finset.univ : Finset (Fin 2048)).fold IntOp.addi 0#32 f).toNat = ∑ t, n t := by
  have key : ∀ s : Finset (Fin 2048), (s.fold IntOp.addi 0#32 f).toNat = ∑ t ∈ s, n t ∧ ∑ t ∈ s, n t ≤ s.card := by
    intro s
    induction s using Finset.induction_on with
    | empty => exact ⟨by simp, by simp⟩
    | insert a s ha ih =>
      have hc : s.card ≤ 2048 := by simpa using Finset.card_le_univ s
      have h1 := hn a
      rw [Finset.fold_insert ha, Finset.sum_insert ha, Finset.card_insert_of_notMem ha]
      refine ⟨?_, by omega⟩
      show (f a + s.fold IntOp.addi 0#32 f).toNat = _
      rw [BitVec.toNat_add, hf, ih.1]
      exact Nat.mod_eq_of_lt (by have := ih.2; omega)
  exact (key Finset.univ).1

/-- The mask's count, read back as a number, is the sum of the mask. -/
theorem count_mask (x : Fin 2048 → EReal) (m : Fin 2048 → ℝ) (hx : ∀ t, x t = ((m t : ℝ) : EReal))
    (hm : ∀ t, m t = 0 ∨ m t = 1) :
    ((((Finset.univ : Finset (Fin 2048)).fold IntOp.addi 0#32 (fun t => Ideal.fptosi 32 (x t))).toInt : ℝ)) = ∑ t, m t := by
  have z : Ideal.fptosi 32 ((0 : ℝ) : EReal) = 0#32 := by rw [Ideal.fptosi, Ideal.toIntClamped_coe]; norm_num
  have o : Ideal.fptosi 32 ((1 : ℝ) : EReal) = 1#32 := by rw [Ideal.fptosi, Ideal.toIntClamped_coe]; norm_num
  have hn : ∀ t, (if m t = 1 then 1 else 0 : ℕ) ≤ 1 := fun t => by split <;> omega
  have hf : ∀ t, (Ideal.fptosi 32 (x t)).toNat = (if m t = 1 then 1 else 0 : ℕ) := by
    intro t
    rw [hx]
    rcases hm t with e | e
    · rw [e, z, if_neg (by norm_num)]; rfl
    · rw [e, o, if_pos rfl]; rfl
  have h := fold_words _ _ hn hf
  have hle : ∑ t : Fin 2048, (if m t = 1 then 1 else 0 : ℕ) ≤ 2048 :=
    (Finset.sum_le_sum fun t _ => hn t).trans (by simp)
  rw [BitVec.toInt_eq_toNat_of_lt (by rw [h]; omega), h]
  push_cast
  refine Finset.sum_congr rfl fun t _ => ?_
  rcases hm t with e | e <;> rw [e] <;> norm_num

end Cert.Pool

end
-- ==== Proof.KernelHost.lean ====
/- The kernel's host operations before its region, read at an index: what each input window's array holds is a slice or a
   reshape of an argument (the roundings to bfloat16 are the identity on extended reals). -/
module

public import proofs.«01_k».proof.Proof.Gen.KernelIdeal.Frame
public import proofs.«01_k».proof.Proof.Args
public import Idealize.ShloMosaic.Lib.Pointwise
public import Idealize.ShloMosaic.Lib.Pipeline.ValueKit

@[expose] public section

noncomputable section

namespace Cert.KernelIdeal.Host

open Idealize.ShloMosaic Idealize.ShloMosaic.TcCoe Cert.KernelIdeal Cert.KernelIdeal.Gen Cert.Pool

variable (m : (ℓ : Loc nD τ sig) → Buf (Elt Ideal) ℓ) (c : Dev nD)

/-- The activations' array: the first 524288 columns of the first argument, one row of positions per batch entry. -/
theorem v2_eq : V m c main_call0_v2 = (truncf .bf16 (shapeCast S16x2048x256 (extractStridedSlice S16x524288 ![0, 0]
    (m ((c : Thread nD τ).loc main_arg0)) slices_S16x526336_S16x524288_0_0) shapeCasts_S16x524288_S16x2048x256) bitsLt_bf16_f32
    : FVec Ideal S16x2048x256 .bf16) := rfl

/-- Its element. -/
theorem v2_apply (b : Fin 16) (t : Fin 2048) (d : Fin 256) :
    V m c main_call0_v2 (ix3 b t d) = m ((c : Thread nD τ).loc main_arg0) (ix2 b (xCol t d)) := by
  refine (congrFun (v2_eq m c) (ix3 b t d)).trans ?_
  pointwise []
  rfl

/-- The mask's array: the last 2048 columns of the first argument. -/
theorem v4_eq : V m c main_call0_v4 = (shapeCast S16x2048x1 (extractStridedSlice S16x2048 ![0, 524288]
    (m ((c : Thread nD τ).loc main_arg0)) slices_S16x526336_S16x2048_0_524288) shapeCasts_S16x2048_S16x2048x1
    : FVec Ideal S16x2048x1 .f32) := rfl

/-- Its element. -/
theorem v4_apply (b : Fin 16) (t : Fin 2048) :
    V m c main_call0_v4 (ix3 b t 0) = m ((c : Thread nD τ).loc main_arg0) (ix2 b (mCol t)) := by
  refine (congrFun (v4_eq m c) (ix3 b t 0)).trans ?_
  pointwise []
  rfl

/-- Window array `v5` is argument 1. -/
theorem v5_apply (i : S256x256.Idx) : V m c main_call0_v5 i = m ((c : Thread nD τ).loc main_arg1) i := rfl

/-- Window array `v7` is argument 3. -/
theorem v7_apply (i : S256x512.Idx) : V m c main_call0_v7 i = m ((c : Thread nD τ).loc main_arg3) i := rfl

/-- Window array `v9` is argument 5. -/
theorem v9_apply (i : S256x512.Idx) : V m c main_call0_v9 i = m ((c : Thread nD τ).loc main_arg5) i := rfl

/-- Window array `v11` is argument 7. -/
theorem v11_apply (i : S256x512.Idx) : V m c main_call0_v11 i = m ((c : Thread nD τ).loc main_arg7) i := rfl

/-- Window array `v6` is argument 2 as one row. -/
theorem v6_eq : V m c main_call0_v6 = (shapeCast S1x256 (m ((c : Thread nD τ).loc main_arg2)) shapeCasts_S256_S1x256
    : FVec Ideal S1x256 .f32) := rfl

/-- Its element. -/
theorem v6_apply (l : Fin 256) : V m c main_call0_v6 (ix2 0 l) = m ((c : Thread nD τ).loc main_arg2) (ix1 l) := by
  refine (congrFun (v6_eq m c) (ix2 0 l)).trans ?_
  pointwise []

/-- Window array `v8` is argument 4 as one row. -/
theorem v8_eq : V m c main_call0_v8 = (shapeCast S1x512 (m ((c : Thread nD τ).loc main_arg4)) shapeCasts_S512_S1x512
    : FVec Ideal S1x512 .f32) := rfl

/-- Its element. -/
theorem v8_apply (l : Fin 512) : V m c main_call0_v8 (ix2 0 l) = m ((c : Thread nD τ).loc main_arg4) (ix1 l) := by
  refine (congrFun (v8_eq m c) (ix2 0 l)).trans ?_
  pointwise []

/-- Window array `v10` is argument 6 as one row. -/
theorem v10_eq : V m c main_call0_v10 = (shapeCast S1x512 (m ((c : Thread nD τ).loc main_arg6)) shapeCasts_S512_S1x512
    : FVec Ideal S1x512 .f32) := rfl

/-- Its element. -/
theorem v10_apply (l : Fin 512) : V m c main_call0_v10 (ix2 0 l) = m ((c : Thread nD τ).loc main_arg6) (ix1 l) := by
  refine (congrFun (v10_eq m c) (ix2 0 l)).trans ?_
  pointwise []

/-- Window array `v12` is argument 8 as one row. -/
theorem v12_eq : V m c main_call0_v12 = (shapeCast S1x512 (m ((c : Thread nD τ).loc main_arg8)) shapeCasts_S512_S1x512
    : FVec Ideal S1x512 .f32) := rfl

/-- Its element. -/
theorem v12_apply (l : Fin 512) : V m c main_call0_v12 (ix2 0 l) = m ((c : Thread nD τ).loc main_arg8) (ix1 l) := by
  refine (congrFun (v12_eq m c) (ix2 0 l)).trans ?_
  pointwise []

end Cert.KernelIdeal.Host

end
-- ==== Proof.KernelArray.lean ====
/- The kernel's two result arrays and its result after the run: each grid point writes its batch entry's pooled values and
   fraction of kept positions, and the operations after the region join them. -/
module

public import proofs.«01_k».proof.Proof.KernelBlock
public import proofs.«01_k».proof.Proof.KernelHost

@[expose] public section

noncomputable section

namespace Cert.KernelIdeal.Array

open Idealize.ShloMosaic Idealize.ShloMosaic.TcCoe Cert.KernelIdeal Cert.KernelIdeal.Gen Cert.KernelIdeal.Host Cert.KernelIdeal.Block
open Cert.Pool Idealize.SL.Sem

variable (m : (ℓ : Loc nD τ sig) → Buf (Elt Ideal) ℓ) (ρ : Dev nD → PrngReg) (c : Dev nD)

/-! ## The index maps -/

/-- The activations' block index at a point is the point. -/
theorem e0 : ∀ t : Fin cfg0.N, win0_0.index t = ![t.val, 0, 0] := (by decide +kernel : ∀ t : Fin grid0.N, _)
/-- The mask's likewise. -/
theorem e1 : ∀ t : Fin cfg0.N, win0_1.index t = ![t.val, 0, 0] := (by decide +kernel : ∀ t : Fin grid0.N, _)
/-- Each weight's block is its whole array. -/
theorem e2 : ∀ t : Fin cfg0.N, win0_2.index t = ![0, 0] := (by decide +kernel : ∀ t : Fin grid0.N, _)
/-- Likewise window 3. -/
theorem e3 : ∀ t : Fin cfg0.N, win0_3.index t = ![0, 0] := (by decide +kernel : ∀ t : Fin grid0.N, _)
/-- Likewise window 4. -/
theorem e4 : ∀ t : Fin cfg0.N, win0_4.index t = ![0, 0] := (by decide +kernel : ∀ t : Fin grid0.N, _)
/-- Likewise window 5. -/
theorem e5 : ∀ t : Fin cfg0.N, win0_5.index t = ![0, 0] := (by decide +kernel : ∀ t : Fin grid0.N, _)
/-- Likewise window 6. -/
theorem e6 : ∀ t : Fin cfg0.N, win0_6.index t = ![0, 0] := (by decide +kernel : ∀ t : Fin grid0.N, _)
/-- Likewise window 7. -/
theorem e7 : ∀ t : Fin cfg0.N, win0_7.index t = ![0, 0] := (by decide +kernel : ∀ t : Fin grid0.N, _)
/-- Likewise window 8. -/
theorem e8 : ∀ t : Fin cfg0.N, win0_8.index t = ![0, 0] := (by decide +kernel : ∀ t : Fin grid0.N, _)
/-- Likewise window 9. -/
theorem e9 : ∀ t : Fin cfg0.N, win0_9.index t = ![0, 0] := (by decide +kernel : ∀ t : Fin grid0.N, _)
/-- The pooled values' block index at a point is the point. -/
theorem e10 : ∀ t : Fin cfg0.N, win0_10.index t = ![t.val, 0, 0] := (by decide +kernel : ∀ t : Fin grid0.N, _)
/-- The fraction's likewise. -/
theorem e11 : ∀ t : Fin cfg0.N, win0_11.index t = ![t.val, 0, 0] := (by decide +kernel : ∀ t : Fin grid0.N, _)

/-- A grid point as a batch entry. -/
def row (t : Fin cfg0.N) : Fin 16 := ⟨t.val, lt_of_lt_of_eq t.isLt N_0⟩

/-! ## The input blocks at a point -/

/-- The activations' block. -/
theorem iblk0_apply (t : Fin cfg0.N) (p : Fin 2048) (d : Fin 256) :
    iblk m c 0 t (ix3 0 p d) = m ((c : Thread nD τ).loc main_arg0) (ix2 (row t) (xCol p d)) := by
  refine Eq.trans ?_ (v2_apply m c (row t) p d)
  blk_simp [iblk]
  refine congrArg (V m c main_call0_v2) ?_
  blk_ext [e0, row]

/-- The mask's block. -/
theorem iblk1_apply (t : Fin cfg0.N) (p : Fin 2048) :
    iblk m c 1 t (ix3 0 p 0) = m ((c : Thread nD τ).loc main_arg0) (ix2 (row t) (mCol p)) := by
  refine Eq.trans ?_ (v4_apply m c (row t) p)
  blk_simp [iblk]
  refine congrArg (V m c main_call0_v4) ?_
  blk_ext [e1, row]

/-- The shared layer's weights. -/
theorem iblk2_apply (t : Fin cfg0.N) (i : S256x256.Idx) :
    iblk m c 2 t i = m ((c : Thread nD τ).loc main_arg1) i := by
  refine Eq.trans ?_ (v5_apply m c i)
  blk_simp [iblk]
  refine congrArg (V m c main_call0_v5) ?_
  blk_ext [e2]

/-- Window 4's block is argument 3. -/
theorem iblk4_apply (t : Fin cfg0.N) (i : S256x512.Idx) :
    iblk m c 4 t i = m ((c : Thread nD τ).loc main_arg3) i := by
  refine Eq.trans ?_ (v7_apply m c i)
  blk_simp [iblk]
  refine congrArg (V m c main_call0_v7) ?_
  blk_ext [e4]

/-- Window 6's block is argument 5. -/
theorem iblk6_apply (t : Fin cfg0.N) (i : S256x512.Idx) :
    iblk m c 6 t i = m ((c : Thread nD τ).loc main_arg5) i := by
  refine Eq.trans ?_ (v9_apply m c i)
  blk_simp [iblk]
  refine congrArg (V m c main_call0_v9) ?_
  blk_ext [e6]

/-- Window 8's block is argument 7. -/
theorem iblk8_apply (t : Fin cfg0.N) (i : S256x512.Idx) :
    iblk m c 8 t i = m ((c : Thread nD τ).loc main_arg7) i := by
  refine Eq.trans ?_ (v11_apply m c i)
  blk_simp [iblk]
  refine congrArg (V m c main_call0_v11) ?_
  blk_ext [e8]

/-- Window 3's block is argument 2 as one row. -/
theorem iblk3_apply (t : Fin cfg0.N) (l : Fin 256) :
    iblk m c 3 t (ix2 0 l) = m ((c : Thread nD τ).loc main_arg2) (ix1 l) := by
  refine Eq.trans ?_ (v6_apply m c l)
  blk_simp [iblk]
  refine congrArg (V m c main_call0_v6) ?_
  blk_ext [e3]

/-- Window 5's block is argument 4 as one row. -/
theorem iblk5_apply (t : Fin cfg0.N) (l : Fin 512) :
    iblk m c 5 t (ix2 0 l) = m ((c : Thread nD τ).loc main_arg4) (ix1 l) := by
  refine Eq.trans ?_ (v8_apply m c l)
  blk_simp [iblk]
  refine congrArg (V m c main_call0_v8) ?_
  blk_ext [e5]

/-- Window 7's block is argument 6 as one row. -/
theorem iblk7_apply (t : Fin cfg0.N) (l : Fin 512) :
    iblk m c 7 t (ix2 0 l) = m ((c : Thread nD τ).loc main_arg6) (ix1 l) := by
  refine Eq.trans ?_ (v10_apply m c l)
  blk_simp [iblk]
  refine congrArg (V m c main_call0_v10) ?_
  blk_ext [e7]

/-- Window 9's block is argument 8 as one row. -/
theorem iblk9_apply (t : Fin cfg0.N) (l : Fin 512) :
    iblk m c 9 t (ix2 0 l) = m ((c : Thread nD τ).loc main_arg8) (ix1 l) := by
  refine Eq.trans ?_ (v12_apply m c l)
  blk_simp [iblk]
  refine congrArg (V m c main_call0_v12) ?_
  blk_ext [e9]

variable {P : Params} {X : Fin 16 → Fin 2048 → Fin 256 → ℝ} {k : Fin 16 → Fin 2048 → ℝ}
variable (H : ArgsHold P X k (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)))

include H

/-- The blocks a point reads hold its batch entry and the weights. -/
theorem holds (t : Fin cfg0.N) : Holds P (X (row t)) (k (row t)) (iblk m c 0 t) (iblk m c 1 t) (iblk m c 2 t) (iblk m c 3 t)
    (iblk m c 4 t) (iblk m c 5 t) (iblk m c 6 t) (iblk m c 7 t) (iblk m c 8 t) (iblk m c 9 t) where
  h0 p d := (iblk0_apply m c t p d).trans (H.hX _ _ _)
  h1 p := (iblk1_apply m c t p).trans (H.hM _ _)
  h2 e d := (iblk2_apply m c t _).trans (H.h1 _ _)
  h3 d := (iblk3_apply m c t d).trans (H.h2 _)
  h4 d l := (iblk4_apply m c t _).trans (H.h3 _ _)
  h5 l := (iblk5_apply m c t l).trans (H.h4 _)
  h6 d l := (iblk6_apply m c t _).trans (H.h5 _ _)
  h7 l := (iblk7_apply m c t l).trans (H.h6 _)
  h8 d l := (iblk8_apply m c t _).trans (H.h7 _ _)
  h9 l := (iblk9_apply m c t l).trans (H.h8 _)
  hm := H.hm (row t)

/-! ## The result arrays -/

/-- The pooled values' array after the run. -/
theorem pooled_array (i : S16x1x512.Idx) :
    (dats m 0 c).arrAt 10 cfg0.N i = ((pooled P (X (i 0)) (k (i 0)) (i 2) : ℝ) : EReal) := by
  refine (dats m 0 c).arrAt_forall_of_covers 10 (fun i v => v = ((pooled P (X (i 0)) (k (i 0)) (i 2) : ℝ) : EReal))
    (by decide +kernel) (fun t hf y => ?_) i
  blk_simp
  rw [after0_10]
  have hy : y = ix3 (0 : Fin 1) (0 : Fin 1) (y 2) := (eq_ix3 y).trans
    (congrArg₂ (fun a b : Fin 1 => ix3 a b (y 2)) (Subsingleton.elim (α := Fin 1) _ _) (Subsingleton.elim (α := Fin 1) _ _))
  have h0 : (win0_10.blk t).view.emb y 0 = row t := by
    apply Fin.ext
    show ((win0_10.blk t).view.emb y 0 : ℕ) = t.val
    blk_simp [e10]
  have h2 : (win0_10.blk t).view.emb y 2 = y 2 := by
    apply Fin.ext
    blk_simp [e10]
  rw [h0, h2]
  exact (congrArg (out0_10 _ _ _ _ _ _ _ _ _ _) hy).trans (out10_apply (holds m c H t) (y 2))

/-- The fractions' array after the run. -/
theorem frac_array (i : S16x1x1.Idx) :
    (dats m 0 c).arrAt 11 cfg0.N i = (((∑ t, k (i 0) t) * (1 / 2048) : ℝ) : EReal) := by
  refine (dats m 0 c).arrAt_forall_of_covers 11 (fun i v => v = (((∑ t, k (i 0) t) * (1 / 2048) : ℝ) : EReal))
    (by decide +kernel) (fun t hf y => ?_) i
  blk_simp
  rw [after0_11]
  have hy : y = ix3 (0 : Fin 1) (0 : Fin 1) (0 : Fin 1) := (eq_ix3 y).trans
    (by congr 1 <;> exact Subsingleton.elim (α := Fin 1) _ _)
  have h0 : (win0_11.blk t).view.emb y 0 = row t := by
    apply Fin.ext
    show ((win0_11.blk t).view.emb y 0 : ℕ) = t.val
    blk_simp [e11]
  rw [h0]
  exact (congrArg (out0_11 _ _ _ _ _ _ _ _ _ _) hy).trans (out11_apply (holds m c H t))

omit H

/-- The result after the run: the two arrays, their unit axes dropped, joined along the columns. -/
theorem result_eq : Pipeline.afterTail₀ cfgs (dats m) 0 (V0 m) [hostOps1] c main_v0
    = (concatenate S16x513 1 [⟨S16x512, shapeCast S16x512 ((dats m 0 c).arrAt 10 cfg0.N) shapeCasts_S16x1x512_S16x512⟩,
      ⟨S16x1, shapeCast S16x1 ((dats m 0 c).arrAt 11 cfg0.N) shapeCasts_S16x1x1_S16x1⟩] concatenates_S16x512_S16x1_S16x513_d1
      : FVec Ideal S16x513 .f32) := by
  rw [← Pipeline.withArrays_arr spec0 launch0.win.arr_inj c (V0 m c) (fun w => (dats m 0 c).arrAt w cfg0.N) 10,
    ← Pipeline.withArrays_arr spec0 launch0.win.arr_inj c (V0 m c) (fun w => (dats m 0 c).arrAt w cfg0.N) 11]
  rfl

/-- Dropping the pooled values' unit axis, at an index. -/
theorem drop_left (A : FVec Ideal S16x1x512 .f32) (b : Fin 16) (l : Fin 512) :
    shapeCast S16x512 A shapeCasts_S16x1x512_S16x512 (ix2 b l) = A (ix3 b 0 l) := by
  pointwise []

/-- Dropping the fractions' unit axis, at an index. -/
theorem drop_right (A : FVec Ideal S16x1x1 .f32) (b : Fin 16) :
    shapeCast S16x1 A shapeCasts_S16x1x1_S16x1 (ix2 b 0) = A (ix3 b 0 0) := by
  pointwise []

include H

/-- The joined array's left piece at an index. -/
theorem left_apply (b : Fin 16) (l : Fin 512) :
    (shapeCast S16x512 ((dats m 0 c).arrAt 10 cfg0.N) shapeCasts_S16x1x512_S16x512 : FVec Ideal S16x512 .f32) (ix2 b l)
      = ((pooled P (X b) (k b) l : ℝ) : EReal) :=
  (drop_left _ b l).trans (pooled_array m c H (ix3 b 0 l))

/-- The joined array's right piece at an index. -/
theorem right_apply (b : Fin 16) :
    (shapeCast S16x1 ((dats m 0 c).arrAt 11 cfg0.N) shapeCasts_S16x1x1_S16x1 : FVec Ideal S16x1 .f32) (ix2 b 0)
      = (((∑ t, k b t) * (1 / 2048) : ℝ) : EReal) :=
  (drop_right _ b).trans (frac_array m c H (ix3 b 0 0))

end Cert.KernelIdeal.Array

end
-- ==== Proof.RefValue.lean ====
/- The reference's result read at an index: its stages, over arguments that hold reals, are the numbers `Pool` names. -/
module

public import proofs.«01_k».proof.Proof.Gen.ReferenceIdeal.Read
public import proofs.«01_k».proof.Proof.Args
public import Idealize.ShloMosaic.Lib.Pointwise

@[expose] public section

noncomputable section

namespace Cert.ReferenceIdeal.RowValue

open Idealize.ShloMosaic Cert.ReferenceIdeal Cert.ReferenceIdeal.Gen Cert.ReferenceIdeal.Read Cert.Pool

/-! ## The literals -/

/-- The maximum's start is `-∞`. -/
theorem lit_bot : Ideal.ofBits FTy.f32 4286578688#32 = ⊥ := by
  simp [Ideal.ofBits, Ideal.ieee]

/-- The scores' divisor is eight. -/
theorem lit_eight : Ideal.ofBits FTy.f32 1090519040#32 = ((8 : ℝ) : EReal) := by
  simp [Ideal.ofBits, Ideal.ieee, -EReal.coe_mul]; norm_num

/-- The fraction's divisor is 2048. -/
theorem lit_2048 : Ideal.ofBits FTy.f32 1157627904#32 = ((2048 : ℝ) : EReal) := by
  simp [Ideal.ofBits, Ideal.ieee, -EReal.coe_mul]; norm_num

section Real

variable {P : Params} {X : Fin 16 → Fin 2048 → Fin 256 → ℝ} {m : Fin 16 → Fin 2048 → ℝ}
variable {x0 : (⟨S16x526336, .f32⟩ : BufTy).Contents (Elt Ideal)} {x1 : (⟨S256x256, .f32⟩ : BufTy).Contents (Elt Ideal)}
  {x2 : (⟨S256, .f32⟩ : BufTy).Contents (Elt Ideal)} {x3 : (⟨S256x512, .f32⟩ : BufTy).Contents (Elt Ideal)}
  {x4 : (⟨S512, .f32⟩ : BufTy).Contents (Elt Ideal)} {x5 : (⟨S256x512, .f32⟩ : BufTy).Contents (Elt Ideal)}
  {x6 : (⟨S512, .f32⟩ : BufTy).Contents (Elt Ideal)} {x7 : (⟨S256x512, .f32⟩ : BufTy).Contents (Elt Ideal)}
  {x8 : (⟨S512, .f32⟩ : BufTy).Contents (Elt Ideal)}
variable (H : ArgsHold P X m x0 x1 x2 x3 x4 x5 x6 x7 x8)
variable (hpm : ∀ b t, val_main_v9 (F := Ideal) x0 (ix2 b t) = ((m b t : ℝ) : EReal))

include H

/-- The shared layer. -/
theorem act_apply (b : Fin 16) (t : Fin 2048) (d : Fin 256) :
    val_main_v15 (F := Ideal) x0 x1 x2 (ix3 b t d) = ((act P (X b) t d : ℝ) : EReal) := by
  have hX := H.hX
  simp only [xCol] at hX
  pointwise [val_main_v15, val_main_v12, val_main_v14, val_main_v13, val_main_v11, val_main_v10]
  simp only [hX, H.h1, H.h2, ← EReal.coe_mul, coe_sum, ← EReal.coe_add]
  rfl

/-- The query projection. -/
theorem query_apply (b : Fin 16) (t : Fin 2048) (l : Fin 512) :
    val_main_v19 (F := Ideal) x0 x1 x2 x3 x4 (ix3 b t l) = ((proj (act P (X b)) P.Wq P.bq t l : ℝ) : EReal) := by
  pointwise [val_main_v19, val_main_v18, val_main_v17, val_main_v16]
  simp only [act_apply H, H.h3, H.h4, ← EReal.coe_mul, coe_sum, ← EReal.coe_add]
  rfl

/-- The key projection. -/
theorem key_apply (b : Fin 16) (t : Fin 2048) (l : Fin 512) :
    val_main_v24 (F := Ideal) x0 x1 x2 x5 x6 (ix3 b t l) = ((proj (act P (X b)) P.Wk P.bk t l : ℝ) : EReal) := by
  pointwise [val_main_v24, val_main_v23, val_main_v22, val_main_v21]
  simp only [act_apply H, H.h5, H.h6, ← EReal.coe_mul, coe_sum, ← EReal.coe_add]
  rfl

/-- The value projection. -/
theorem value_apply (b : Fin 16) (t : Fin 2048) (l : Fin 512) :
    val_main_v29 (F := Ideal) x0 x1 x2 x7 x8 (ix3 b t l) = ((proj (act P (X b)) P.Wv P.bv t l : ℝ) : EReal) := by
  pointwise [val_main_v29, val_main_v28, val_main_v27, val_main_v26]
  simp only [act_apply H, H.h7, H.h8, ← EReal.coe_mul, coe_sum, ← EReal.coe_add]
  rfl

/-- The scores. -/
theorem score_apply (b : Fin 16) (t : Fin 2048) (h : Fin 8) :
    val_main_v34 (F := Ideal) x0 x1 x2 x3 x4 x5 x6 (ix3 b t h) = ((score P (X b) t h : ℝ) : EReal) := by
  pointwise [val_main_v34, val_main_v33, val_main_v32, val_main_v31, val_main_v20, val_main_v25, val_main_cst, val_main_cst_0]
  simp only [query_apply H, key_apply H, lit_eight, ← EReal.coe_mul, coe_sum]
  rw [Ideal.div_coe (by norm_num), ← EReal.coe_mul]
  congr 1
  unfold score
  congr 1
  refine Finset.sum_congr rfl fun a _ => ?_
  unfold prodQK lane
  congr 2 <;> first | rfl | (apply Fin.ext; simp only []; omega)

include hpm

/-- The scores times the mask. -/
theorem masked_apply (b : Fin 16) (t : Fin 2048) (h : Fin 8) :
    val_main_v37 (F := Ideal) x0 x1 x2 x3 x4 x5 x6 (ix3 b t h) = ((score P (X b) t h * m b t : ℝ) : EReal) := by
  pointwise [val_main_v37, val_main_v36, val_main_v35]
  simp only [score_apply H, hpm, ← EReal.coe_mul]

/-- The greatest clipped score is the peak. -/
theorem top_apply (b : Fin 16) (h : Fin 8) :
    val_main_v43 (F := Ideal) x0 x1 x2 x3 x4 x5 x6 (ix2 b h) = ((top P (X b) (m b) h : ℝ) : EReal) := by
  pointwise [val_main_v43, val_main_v42, val_main_v41, val_main_v40, val_main_v39, val_main_v38, val_main_cst_1, val_main_cst_2]
  rw [lit_bot, ← peak_kept]
  refine fold_clip _ _ fun t => ?_
  simp only [masked_apply H hpm, hpm, ← EReal.coe_mul]
  unfold kept
  rcases H.hm b t with e | e
  · rw [e, if_neg (by norm_num), mul_zero, EReal.coe_zero, max_self, max_eq_right bot_le]
  · rw [e, if_pos rfl, mul_one, mul_one]

/-- The mask times the exponential is the weight. -/
theorem weight_eq (b : Fin 16) (t : Fin 2048) (h : Fin 8) :
    m b t * Real.exp (score P (X b) t h * m b t - top P (X b) (m b) h) = weight P (X b) (m b) t h := by
  unfold weight
  rcases H.hm b t with e | e
  · rw [e, zero_mul, zero_mul]
  · rw [e, mul_one]

/-- The normalised weights. -/
theorem attn_apply (b : Fin 16) (t : Fin 2048) (h : Fin 8) :
    val_main_v55 (F := Ideal) x0 x1 x2 x3 x4 x5 x6 (ix3 b t h)
      = ((weight P (X b) (m b) t h / total P (X b) (m b) h : ℝ) : EReal) := by
  pointwise [val_main_v55, val_main_v54, val_main_v53, val_main_v52, val_main_v51, val_main_v50, val_main_v49, val_main_v48,
    val_main_v47, val_main_v46, val_main_v45, val_main_v44, val_main_v39, val_main_v38, val_main_cst_3, val_main_cst_4]
  have e : ∀ r : ℝ, Ideal.exp (r : EReal) = ((Real.exp r : ℝ) : EReal) := fun _ => rfl
  simp only [masked_apply H hpm, top_apply H hpm, hpm, ← EReal.coe_sub, e, ← EReal.coe_mul, weight_eq H hpm, coe_sum, ← EReal.coe_one,
    ← EReal.coe_add]
  rw [show (∑ t, weight P (X b) (m b) t h + 1) = total P (X b) (m b) h from rfl,
    div_real _ (total_ne_zero P (X b) (m b) (H.hm b) h), ← EReal.coe_mul, ← mul_div_assoc, weight_eq H hpm]

/-- The pooled values, laid out over the 512 lanes. -/
theorem pooled_apply (b : Fin 16) (l : Fin 512) :
    val_main_v63 (F := Ideal) x0 x1 x2 x3 x4 x5 x6 x7 x8 (ix2 b l) = ((pooled P (X b) (m b) l : ℝ) : EReal) := by
  pointwise [val_main_v63, val_main_v62, val_main_v61, val_main_v60, val_main_v59, val_main_v58, val_main_v57, val_main_v56,
    val_main_v30, val_main_cst_5]
  simp only [value_apply H, attn_apply H hpm, hpm, ← EReal.coe_mul, coe_sum]
  congr 1
  unfold pooled
  refine Finset.sum_congr rfl fun t _ => ?_
  show _ * (weight P (X b) (m b) t (head l) / total P (X b) (m b) (head l)) = _
  unfold weight
  rcases H.hm b t with e | e
  · rw [e]; simp
  · rw [e]; ring

omit hpm

/-- The fraction of kept positions. -/
theorem frac_apply (b : Fin 16) :
    val_main_v67 (F := Ideal) x0 (ix2 b 0) = (((∑ t, m b t) * (1 / 2048) : ℝ) : EReal) := by
  pointwise [val_main_v67, val_main_v66, val_main_v65, val_main_v64, val_main_cst_6, val_main_v2, val_main_v1, val_main_v0, val_main_c]
  rw [lit_2048, Ideal.div_coe (by norm_num), EReal.coe_mul]
  congr 1
  exact congrArg Real.toEReal (count_mask _ (m b) (H.hM b) (H.hm b))

include hpm

/-- Sixteen rows of pooled values joined with the fractions of kept positions are the reference's result. -/
theorem result_eq (y₁ : (⟨S16x512, .f32⟩ : BufTy).Contents (Elt Ideal)) (y₂ : (⟨S16x1, .f32⟩ : BufTy).Contents (Elt Ideal))
    (h₁ : ∀ b l, y₁ (ix2 b l) = ((pooled P (X b) (m b) l : ℝ) : EReal))
    (h₂ : ∀ b, y₂ (ix2 b 0) = (((∑ t, m b t) * (1 / 2048) : ℝ) : EReal)) :
    concatenate S16x513 1 [⟨S16x512, y₁⟩, ⟨S16x1, y₂⟩] concatenates_S16x512_S16x1_S16x513_d1
      = val_main_v68 (F := Ideal) x0 x1 x2 x3 x4 x5 x6 x7 x8 := by
  have e₁ : y₁ = val_main_v63 (F := Ideal) x0 x1 x2 x3 x4 x5 x6 x7 x8 := by
    refine funext fun i : (⟨2, ![16, 512]⟩ : Shape).Idx => ?_
    exact (congrArg y₁ (eq_ix2 i)).trans ((h₁ _ _).trans ((pooled_apply H hpm _ _).symm.trans
      (congrArg (val_main_v63 (F := Ideal) x0 x1 x2 x3 x4 x5 x6 x7 x8) (eq_ix2 i).symm)))
  have e₂ : y₂ = val_main_v67 (F := Ideal) x0 := by
    refine funext fun i : (⟨2, ![16, 1]⟩ : Shape).Idx => ?_
    have hi : i = ix2 (i 0) (0 : Fin 1) :=
      (eq_ix2 i).trans (congrArg (ix2 (i 0)) (Subsingleton.elim (α := Fin 1) (i 1) 0))
    exact (congrArg y₂ hi).trans ((h₂ _).trans ((frac_apply H _).symm.trans
      (congrArg (val_main_v67 (F := Ideal) x0) hi.symm)))
  subst e₁ e₂
  rfl

end Real

end Cert.ReferenceIdeal.RowValue

end
-- ==== Proof.PreFacts.lean ====
/- The precondition read: every argument entry is a real number, and the mask columns are the zeros and ones the reference
   builds from their count. -/
module

public import proofs.«01_k».proof.Defs
public import proofs.«01_k».proof.Proof.Gen.ReferenceIdeal.Read
public import proofs.«01_k».proof.Proof.Gen.Pre_finite_left_aligned
public import proofs.«01_k».proof.Proof.Args
public import Idealize.ShloMosaic.Lib.Pointwise

@[expose] public section

noncomputable section

namespace Cert.PreFacts

open Idealize.ShloMosaic Cert.ReferenceIdeal Cert.ReferenceIdeal.Gen Cert.ReferenceIdeal.Read Cert.Pool

/-- The compared bound is `+∞`. -/
theorem lit_top : Ideal.ofBits FTy.f32 0x7F800000#32 = ⊤ := by
  simp [Ideal.ofBits, Ideal.ieee]

/-- An extended real whose absolute value compares below `+∞` is a real number. -/
theorem real_of_lt (x : EReal) (h : BitVec.ofBool (decide (max x (-x) < ⊤)) = 1#1) : x = ((x.toReal : ℝ) : EReal) := by
  refine (EReal.coe_toReal ?_ ?_).symm
  · rintro rfl; simp at h
  · rintro rfl; simp at h

/-- An array whose entries' absolute values all compare below `+∞` holds real numbers. -/
theorem real_of_finite {s : Shape} (x : FVec Ideal s .f32)
    (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) (i : s.Idx) :
    x i = ((EReal.toReal (x i) : ℝ) : EReal) := by
  have h' : BitVec.ofBool (decide (max (x i : EReal) (-(x i : EReal)) < Ideal.ofBits FTy.f32 0x7F800000#32)) = 1#1 := congrFun h i
  rw [lit_top] at h'
  exact real_of_lt _ h'

/-- Two arrays that compare equal everywhere are equal. -/
theorem eq_of_oeq {s : Shape} (x y : FVec Ideal s .f32) (h : cmpf .oeq x y = fun _ => 1#1) (i : s.Idx) : x i = y i := by
  have h' : BitVec.ofBool (decide ((x i : EReal) = y i)) = 1#1 := congrFun h i
  by_contra hne
  rw [decide_eq_false hne] at h'
  exact absurd h' (by decide)

/-- A one-bit word read as a number is zero or one. -/
theorem bit_real (b : BitVec 1) : ((b.toNat : ℝ)) = 0 ∨ ((b.toNat : ℝ)) = 1 := by
  have : b = 0#1 ∨ b = 1#1 := by revert b; decide
  rcases this with rfl | rfl
  · left; norm_num
  · right; norm_num

/-- From the precondition: the arguments hold real activations, weights and a mask of zeros and ones, and the mask is the
    one the reference builds. -/
theorem args_hold [Cert.Pre_finite_left_aligned.Facts]
    (m : (ℓ : Loc Cert.KernelIdeal.nD Cert.KernelIdeal.τ Cert.KernelIdeal.sig) → Buf (Elt Ideal) ℓ)
    (h : Cert.Pre_KernelIdeal_finite_left_aligned m) (c : Dev Cert.KernelIdeal.nD) :
    ∃ (P : Params) (X : Fin 16 → Fin 2048 → Fin 256 → ℝ) (k : Fin 16 → Fin 2048 → ℝ),
      ArgsHold P X k (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ ∀ b t, val_main_v9 (F := Ideal) (m ((c.tc : Thread Cert.KernelIdeal.nD Cert.KernelIdeal.τ).loc Cert.KernelIdeal.main_arg0))
          (ix2 b t) = ((k b t : ℝ) : EReal) := by
  obtain ⟨f0, f1, f2, f3, f4, f5, f6, f7, f8, f9⟩ := h c
  generalize m ((c.tc : Thread Cert.KernelIdeal.nD Cert.KernelIdeal.τ).loc Cert.KernelIdeal.main_arg0) = a0 at *
  generalize m ((c.tc : Thread Cert.KernelIdeal.nD Cert.KernelIdeal.τ).loc Cert.KernelIdeal.main_arg1) = a1 at *
  generalize m ((c.tc : Thread Cert.KernelIdeal.nD Cert.KernelIdeal.τ).loc Cert.KernelIdeal.main_arg2) = a2 at *
  generalize m ((c.tc : Thread Cert.KernelIdeal.nD Cert.KernelIdeal.τ).loc Cert.KernelIdeal.main_arg3) = a3 at *
  generalize m ((c.tc : Thread Cert.KernelIdeal.nD Cert.KernelIdeal.τ).loc Cert.KernelIdeal.main_arg4) = a4 at *
  generalize m ((c.tc : Thread Cert.KernelIdeal.nD Cert.KernelIdeal.τ).loc Cert.KernelIdeal.main_arg5) = a5 at *
  generalize m ((c.tc : Thread Cert.KernelIdeal.nD Cert.KernelIdeal.τ).loc Cert.KernelIdeal.main_arg6) = a6 at *
  generalize m ((c.tc : Thread Cert.KernelIdeal.nD Cert.KernelIdeal.τ).loc Cert.KernelIdeal.main_arg7) = a7 at *
  generalize m ((c.tc : Thread Cert.KernelIdeal.nD Cert.KernelIdeal.τ).loc Cert.KernelIdeal.main_arg8) = a8 at *
  have r0 := real_of_finite a0 _ f0
  have r1 := real_of_finite a1 _ f1
  have r2 := real_of_finite a2 _ f2
  have r3 := real_of_finite a3 _ f3
  have r4 := real_of_finite a4 _ f4
  have r5 := real_of_finite a5 _ f5
  have r6 := real_of_finite a6 _ f6
  have r7 := real_of_finite a7 _ f7
  have r8 := real_of_finite a8 _ f8
  have q : ∀ b t, val_main_v0 (F := Ideal) a0 (ix2 b t) = val_main_v9 (F := Ideal) a0 (ix2 b t) := fun b t =>
    eq_of_oeq (val_main_v0 (F := Ideal) a0) (val_main_v9 (F := Ideal) a0) f9 (ix2 b t)
  have e0 : ∀ b t, val_main_v0 (F := Ideal) a0 (ix2 b t) = a0 (ix2 b (mCol t)) := fun b t => by
    pointwise [val_main_v0]
    rfl
  refine ⟨⟨fun e d => EReal.toReal (a1 (ix2 e d)), fun d => EReal.toReal (a2 (ix1 d)), fun d l => EReal.toReal (a3 (ix2 d l)),
    fun l => EReal.toReal (a4 (ix1 l)), fun d l => EReal.toReal (a5 (ix2 d l)), fun l => EReal.toReal (a6 (ix1 l)),
    fun d l => EReal.toReal (a7 (ix2 d l)), fun l => EReal.toReal (a8 (ix1 l))⟩,
    fun b t d => EReal.toReal (a0 (ix2 b (xCol t d))), fun b t => ((val_main_v8 (F := Ideal) a0 (ix2 b t)).toNat : ℝ),
    ⟨fun b t d => r0 _, fun b t => ?_, fun e d => r1 _, fun d => r2 _, fun d l => r3 _, fun l => r4 _, fun d l => r5 _,
      fun l => r6 _, fun d l => r7 _, fun l => r8 _, fun b t => bit_real _⟩, fun b t => rfl⟩
  exact (e0 b t).symm.trans (q b t)

end Cert.PreFacts

end
-- ==== Proof.Assemble.lean ====
/- The two programs' runs and the equality of their results. -/
module

public import proofs.«01_k».proof.Proof.KernelArray
public import proofs.«01_k».proof.Proof.RefValue
public import proofs.«01_k».proof.Proof.PreFacts
public import Idealize.ShloMosaic.Lib.Quiescent

@[expose] public section

noncomputable section

namespace Cert.Assemble

open Idealize.ShloMosaic Idealize.ShloMosaic.TcCoe Idealize.SL.Sem

/-- The kernel's run: its result at what the operations after the region compute, every argument unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v0)
          = Pipeline.afterTail₀ Cert.KernelIdeal.cfgs (Cert.KernelIdeal.Gen.dats m) 0 (Cert.KernelIdeal.Gen.V0 m)
              [Cert.KernelIdeal.Gen.hostOps1] c Cert.KernelIdeal.main_v0
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5)
          = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6)
          = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7)
          = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8)
          = m ((c.tc : Thread Cert.KernelIdeal.nD Cert.KernelIdeal.τ).loc Cert.KernelIdeal.main_arg8)) :=
  (θ_run Cert.KernelIdeal.defs _ _).mono
    (fun _ h c => ⟨h.2 c |>.2 Cert.KernelIdeal.main_v0 (Pipeline.mem_restRefs_of Cert.KernelIdeal.main_v0 (by decide) (by decide)), h.1 c⟩)
    (θ_run_and (Cert.KernelIdeal.Gen.unchanged m ρ) (Cert.KernelIdeal.Gen.run_main m ρ))

/-- Under the precondition the kernel's result is the reference's result of the same arguments. -/
theorem value_eq [Cert.Pre_finite_left_aligned.Facts]
    (m : (ℓ : Loc Cert.KernelIdeal.nD Cert.KernelIdeal.τ Cert.KernelIdeal.sig) → Buf (Elt Ideal) ℓ)
    (h : Cert.Pre_KernelIdeal_finite_left_aligned m) (c : Dev Cert.KernelIdeal.nD) :
    Pipeline.afterTail₀ Cert.KernelIdeal.cfgs (Cert.KernelIdeal.Gen.dats m) 0 (Cert.KernelIdeal.Gen.V0 m)
        [Cert.KernelIdeal.Gen.hostOps1] c Cert.KernelIdeal.main_v0
      = Cert.ReferenceIdeal.Read.val_main_v68 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)) := by
  obtain ⟨P, X, k, H, hpm⟩ := Cert.PreFacts.args_hold m h c
  rw [Cert.KernelIdeal.Array.result_eq]
  exact Cert.ReferenceIdeal.RowValue.result_eq H hpm _ _ (Cert.KernelIdeal.Array.left_apply m c H)
    (Cert.KernelIdeal.Array.right_apply m c H)

end Cert.Assemble

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_left_aligned
public import proofs.«01_k».proof.Proof.Assemble
public import Idealize.ShloMosaic.Adequacy
public import Idealize.ShloMosaic.Init

@[expose] public section

noncomputable section

namespace Cert.Proof

open Idealize.ShloMosaic Idealize.SL.Sem Cert.Kernel

/-- The printed kernel runs, leaves its arguments unchanged and its counters at zero. -/
theorem frame_kernel : Cert.quiescent_Kernel (hKernel := Cert.Kernel.Gen.facts) := fun m ρ _ => Cert.Kernel.Gen.frame m ρ

/-- So does the kernel in exact arithmetic. -/
theorem frame_ideal : Cert.quiescent_KernelIdeal (hKernelIdeal := Cert.KernelIdeal.Gen.facts) :=
  fun m ρ _ => Cert.KernelIdeal.Gen.frame m ρ

/-- And, in particular, under the precondition. -/
theorem frame_ideal_pre : Cert.quiescent_KernelIdeal_pre_finite_left_aligned (hKernelIdeal := Cert.KernelIdeal.Gen.facts)
    (hPre_finite_left_aligned := Cert.Pre_finite_left_aligned.Gen.facts) :=
  fun m ρ _ => Cert.KernelIdeal.Gen.frame m ρ

/-- The reference runs, leaves its arguments unchanged, and has no semaphore. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

/-- And, in particular, under the precondition. -/
theorem frame_reference_pre : Cert.quiescent_ReferenceIdeal_pre_finite_left_aligned
    (hReferenceIdeal := Cert.ReferenceIdeal.Gen.facts) (hPre_finite_left_aligned := Cert.Pre_finite_left_aligned.Gen.facts) :=
  fun m ρ _ => frame_reference m ρ trivial

/-- The named constant: `-1e30` in the kernel's text, `-∞` in exact arithmetic. -/
theorem preserves : Cert.preserves_Kernel_KernelIdeal :=
  IdealRules.named_const.statement Cert.KernelIdeal.κ "neg" .f32 0xF149F2CA#32 ⊥ rfl

/-- Under the precondition the kernel and the reference end with equal results. -/
theorem algebraic : Cert.algebraic_KernelIdeal_ReferenceIdeal_pre_finite_left_aligned
    (hKernelIdeal := Cert.KernelIdeal.Gen.facts) (hReferenceIdeal := Cert.ReferenceIdeal.Gen.facts)
    (hPre_finite_left_aligned := Cert.Pre_finite_left_aligned.Gen.facts) := by
  intro m ρ m' ρ' hpre hargs
  letI : Cert.Pre_finite_left_aligned.Facts := Cert.Pre_finite_left_aligned.Gen.facts
  refine ⟨_, Cert.Assemble.kernel_run m ρ, ?_⟩
  refine (θ_run Cert.ReferenceIdeal.defs _ _).mono (fun r h c => ⟨(h c).1.trans ?_, (h c).2⟩) (Cert.ReferenceIdeal.Value.run m' ρ')
  obtain ⟨e0, e1, e2, e3, e4, e5, e6, e7, e8⟩ := hargs c
  rw [Cert.ReferenceIdeal.Read.val_main_v68_eq, e0, e1, e2, e3, e4, e5, e6, e7, e8]
  exact (Cert.Assemble.value_eq m hpre c).symm

/-- Everything claimed. -/
theorem claim : Cert.Claim :=
  ⟨Cert.Kernel.Gen.facts, Cert.KernelIdeal.Gen.facts, Cert.ReferenceIdeal.Gen.facts, Cert.Pre_finite_left_aligned.Gen.facts,
    frame_kernel, frame_ideal, frame_ideal_pre, frame_reference, frame_reference_pre, preserves, algebraic⟩

end Cert.Proof

end
